-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_infinity [hPre_below_infinity : Cert.Pre_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_infinity [hPre_below_infinity : Cert.Pre_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_below_infinity [hKernelIdeal : Cert.KernelIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_below_infinity [hReferenceIdeal : Cert.ReferenceIdeal.Facts] [hPre_below_infinity : Cert.Pre_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_below_infinity [hKernelIdeal : Cert.KernelIdeal.Facts] [hReferenceIdeal : Cert.ReferenceIdeal.Facts] [hPre_below_infinity : Cert.Pre_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v140) = v1 c
          ∧ r.2.mem ((c.tc : Thread Cert.ReferenceIdeal.nD Cert.ReferenceIdeal.τ).loc Cert.ReferenceIdeal.main_v143) = v2 c
          ∧ r.2.mem ((c.tc : Thread Cert.ReferenceIdeal.nD Cert.ReferenceIdeal.τ).loc Cert.ReferenceIdeal.main_v159) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_below_infinity : Cert.Pre_below_infinity.Facts),
    quiescent_Kernel (hKernel := hKernel)
    ∧ quiescent_KernelIdeal (hKernelIdeal := hKernelIdeal)
    ∧ quiescent_KernelIdeal_pre_below_infinity (hKernelIdeal := hKernelIdeal) (hPre_below_infinity := hPre_below_infinity)
    ∧ quiescent_ReferenceIdeal (hReferenceIdeal := hReferenceIdeal)
    ∧ quiescent_ReferenceIdeal_pre_below_infinity (hReferenceIdeal := hReferenceIdeal) (hPre_below_infinity := hPre_below_infinity)
    ∧ preserves_Kernel_KernelIdeal
    ∧ algebraic_KernelIdeal_ReferenceIdeal_pre_below_infinity (hKernelIdeal := hKernelIdeal) (hReferenceIdeal := hReferenceIdeal) (hPre_below_infinity := hPre_below_infinity)
-- ==== Pre_below_infinity.lean ====
abbrev S4096x3 : Shape := ⟨2, ![4096, 3]⟩
abbrev S4096x1 : Shape := ⟨2, ![4096, 1]⟩
abbrev S4096 : Shape := ⟨1, ![4096]⟩
abbrev S4x4 : Shape := ⟨2, ![4, 4]⟩
abbrev S_ : Shape := ⟨0, ![]⟩

class Facts : Prop where
  bcast_S_S4096x1 : S_.BroadcastsInDim S4096x1 (![] : Fin 0 → Fin S4096x1.rank)
  bcast_S_S4096x3 : S_.BroadcastsInDim S4096x3 (![] : Fin 0 → Fin S4096x3.rank)

variable [Facts]

def fn {F : FTy → Type} [FloatOps F] (main_arg0 : FVec F S4096x3 .f32) (main_arg1 : FVec F S4096x1 .f32) (main_arg2 : FVec F S4096 .f32) (main_arg3 : FVec F S4096x3 .f32) (main_arg4 : FVec F S4x4 .f32) (main_arg5 : FVec F S4x4 .f32) : IVec S4096x1 1 × IVec S4096x3 1 :=
  let main_cst : FVec F S_ .f32 := constant S_ .f32 0x7F800000#32
  let main_v0 : FVec F S4096x1 .f32 := broadcastInDim S4096x1 ![] bcast_S_S4096x1 main_cst
  let main_v1 : IVec S4096x1 1 := cmpf .olt main_arg1 main_v0
  let main_cst_0 : FVec F S_ .f32 := constant S_ .f32 0x7F800000#32
  let main_v2 : FVec F S4096x3 .f32 := broadcastInDim S4096x3 ![] bcast_S_S4096x3 main_cst_0
  let main_v3 : IVec S4096x3 1 := cmpf .olt main_arg3 main_v2
  (main_v1, main_v3)
-- ==== Kernel.lean ====
abbrev S4096x3 : Shape := ⟨2, ![4096, 3]⟩
abbrev S4096x1 : Shape := ⟨2, ![4096, 1]⟩
abbrev S4096 : Shape := ⟨1, ![4096]⟩
abbrev S4x4 : Shape := ⟨2, ![4, 4]⟩
abbrev S3x4096 : Shape := ⟨2, ![3, 4096]⟩
abbrev S1x4096 : Shape := ⟨2, ![1, 4096]⟩
abbrev S9x4096 : Shape := ⟨2, ![9, 4096]⟩
abbrev S8x4096 : Shape := ⟨2, ![8, 4096]⟩
abbrev S4096x8 : Shape := ⟨2, ![4096, 8]⟩
abbrev S16x4096x8 : Shape := ⟨3, ![16, 4096, 8]⟩
abbrev S4x4x64x64x8 : Shape := ⟨5, ![4, 4, 64, 64, 8]⟩
abbrev S4x64x4x64x8 : Shape := ⟨5, ![4, 64, 4, 64, 8]⟩
abbrev S256x256x8 : Shape := ⟨3, ![256, 256, 8]⟩
abbrev S256x256x3 : Shape := ⟨3, ![256, 256, 3]⟩
abbrev S256x256x1 : Shape := ⟨3, ![256, 256, 1]⟩
abbrev S1x1 : Shape := ⟨2, ![1, 1]⟩
abbrev S1x512 : Shape := ⟨2, ![1, 512]⟩
abbrev S4096x512 : Shape := ⟨2, ![4096, 512]⟩
abbrev S512x1 : Shape := ⟨2, ![512, 1]⟩
abbrev S512x4096 : Shape := ⟨2, ![512, 4096]⟩
abbrev S1x128 : Shape := ⟨2, ![1, 128]⟩
abbrev S128x1 : Shape := ⟨2, ![128, 1]⟩
abbrev S4096x128 : Shape := ⟨2, ![4096, 128]⟩
abbrev S128x4096 : Shape := ⟨2, ![128, 4096]⟩
abbrev S8x128 : Shape := ⟨2, ![8, 128]⟩
abbrev S128x8 : Shape := ⟨2, ![128, 8]⟩
abbrev S1x4096x8 : Shape := ⟨3, ![1, 4096, 8]⟩
abbrev S4096x127 : Shape := ⟨2, ![4096, 127]⟩
abbrev S4096x2 : Shape := ⟨2, ![4096, 2]⟩
abbrev S4096x126 : Shape := ⟨2, ![4096, 126]⟩
abbrev S4096x4 : Shape := ⟨2, ![4096, 4]⟩
abbrev S4096x124 : Shape := ⟨2, ![4096, 124]⟩
abbrev S4096x120 : Shape := ⟨2, ![4096, 120]⟩
abbrev S4096x16 : Shape := ⟨2, ![4096, 16]⟩
abbrev S4096x112 : Shape := ⟨2, ![4096, 112]⟩
abbrev S4096x32 : Shape := ⟨2, ![4096, 32]⟩
abbrev S4096x96 : Shape := ⟨2, ![4096, 96]⟩
abbrev S4096x64 : Shape := ⟨2, ![4096, 64]⟩

abbrev nBuf : Space → Nat
  | .hbm => 28
  | .vmem => 14
  | .smem => 3
  | _ => 0

abbrev bufTy : (tb : Table) → Fin (tcTables nBuf tb) → BufTy
  | .hbm, ⟨0, _⟩ => ⟨S4096x3, .f32⟩
  | .hbm, ⟨1, _⟩ => ⟨S4096x1, .f32⟩
  | .hbm, ⟨2, _⟩ => ⟨S4096, .f32⟩
  | .hbm, ⟨3, _⟩ => ⟨S4096x3, .f32⟩
  | .hbm, ⟨4, _⟩ => ⟨S4x4, .f32⟩
  | .hbm, ⟨5, _⟩ => ⟨S4x4, .f32⟩
  | .hbm, ⟨6, _⟩ => ⟨S3x4096, .f32⟩
  | .hbm, ⟨7, _⟩ => ⟨S1x4096, .f32⟩
  | .hbm, ⟨8, _⟩ => ⟨S1x4096, .f32⟩
  | .hbm, ⟨9, _⟩ => ⟨S4x4, .bf16⟩
  | .hbm, ⟨10, _⟩ => ⟨S4x4, .f32⟩
  | .hbm, ⟨11, _⟩ => ⟨S4x4, .bf16⟩
  | .hbm, ⟨12, _⟩ => ⟨S4x4, .f32⟩
  | .hbm, ⟨13, _⟩ => ⟨S9x4096, .f32⟩
  | .hbm, ⟨14, _⟩ => ⟨S1x4096, .f32⟩
  | .hbm, ⟨15, _⟩ => ⟨S1x4096, .f32⟩
  | .hbm, ⟨16, _⟩ => ⟨S4096, .f32⟩
  | .hbm, ⟨17, _⟩ => ⟨S4096x1, .f32⟩
  | .hbm, ⟨18, _⟩ => ⟨S8x4096, .f32⟩
  | .hbm, ⟨19, _⟩ => ⟨S4096x8, .f32⟩
  | .hbm, ⟨20, _⟩ => ⟨S16x4096x8, .f32⟩
  | .hbm, ⟨21, _⟩ => ⟨S4x4x64x64x8, .f32⟩
  | .hbm, ⟨22, _⟩ => ⟨S4x64x4x64x8, .f32⟩
  | .hbm, ⟨23, _⟩ => ⟨S256x256x8, .f32⟩
  | .hbm, ⟨24, _⟩ => ⟨S256x256x3, .f32⟩
  | .hbm, ⟨25, _⟩ => ⟨S256x256x1, .f32⟩
  | .hbm, ⟨26, _⟩ => ⟨S256x256x1, .f32⟩
  | .hbm, ⟨27, _⟩ => ⟨S4096, .f32⟩
  | .local _ .vmem, ⟨0, _⟩ => ⟨S3x4096, .f32⟩
  | .local _ .vmem, ⟨1, _⟩ => ⟨S1x4096, .f32⟩
  | .local _ .vmem, ⟨2, _⟩ => ⟨S1x4096, .f32⟩
  | .local _ .vmem, ⟨3, _⟩ => ⟨S9x4096, .f32⟩
  | .local _ .vmem, ⟨4, _⟩ => ⟨S1x4096, .f32⟩
  | .local _ .vmem, ⟨5, _⟩ => ⟨S9x4096, .f32⟩
  | .local _ .vmem, ⟨6, _⟩ => ⟨S4096x1, .f32⟩
  | .local _ .vmem, ⟨7, _⟩ => ⟨S4096x3, .f32⟩
  | .local _ .vmem, ⟨8, _⟩ => ⟨S8x4096, .f32⟩
  | .local _ .vmem, ⟨9, _⟩ => ⟨S4096x8, .f32⟩
  | .local _ .vmem, ⟨10, _⟩ => ⟨S8x4096, .f32⟩
  | .local _ .vmem, ⟨11, _⟩ => ⟨S4096x8, .f32⟩
  | .local _ .vmem, ⟨12, _⟩ => ⟨S1x4096x8, .f32⟩
  | .local _ .vmem, ⟨13, _⟩ => ⟨S1x4096x8, .f32⟩
  | .local _ .smem, ⟨0, _⟩ => ⟨S4x4, .f32⟩
  | .local _ .smem, ⟨1, _⟩ => ⟨S4x4, .f32⟩
  | .local _ .smem, ⟨2, _⟩ => ⟨S4x4, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7_0 : Ref sig .tc := ⟨.hbm, 13, rfl⟩
abbrev main_call0_v7_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11_0 : Ref sig .tc := ⟨.hbm, 18, rfl⟩
abbrev main_call0_v11_1 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg6_0 : Ref sig .tc := ⟨.vmem, 3, rfl⟩
abbrev cc0_stg7_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc2_sem0_0 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := .none

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S4x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S4x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c32_i32 : BitVec 32 := 32#32
  let v316 : BitVec 32 := Scalar.addi c0_i32 c32_i32
  let c1_i32 : BitVec 32 := 1#32
  ⟨c0_i32, v316, c1_i32⟩
def k1_off1 (k1_t1 : Fin k1_t1_loop.trips) : Fin 2 → Nat :=
  let c0_30 : Index := 0#32
  let c0_i32 : BitVec 32 := 0#32
  let c1_i32 : BitVec 32 := 1#32
  let arg5 : BitVec 32 := Scf.iv c0_i32 c1_i32 k1_t1
  let c128_i32 : BitVec 32 := 128#32
  let v317 : BitVec 32 := Scalar.muli arg5 c128_i32
  let v341 : Index := Scalar.indexCast v317
  ![0, v341.toNat]
def k1_off2 (k1_t1 : Fin k1_t1_loop.trips) : Fin 2 → Nat :=
  let c0_i32 : BitVec 32 := 0#32
  let c1_i32 : BitVec 32 := 1#32
  let arg5 : BitVec 32 := Scf.iv c0_i32 c1_i32 k1_t1
  let c128_i32 : BitVec 32 := 128#32
  let v317 : BitVec 32 := Scalar.muli arg5 c128_i32
  let v350 : Index := Scalar.indexCast v317
  let c0_35 : Index := 0#32
  ![v350.toNat, 0]
abbrev stage1_0 : Fin 1 → Memref sig .tc .vmem S9x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨1, ![16], ![false]⟩

@[reducible] def k2_t1_loop : Scf.Loop 32 :=
  let c0_i32_25 : BitVec 32 := 0#32
  let c32_i32 : BitVec 32 := 32#32
  let v80 : BitVec 32 := Scalar.addi c0_i32_25 c32_i32
  let c1_i32_26 : BitVec 32 := 1#32
  ⟨c0_i32_25, v80, c1_i32_26⟩
def k2_off1 (k2_t1 : Fin k2_t1_loop.trips) : Fin 2 → Nat :=
  let c0_35 : Index := 0#32
  let c0_i32_25 : BitVec 32 := 0#32
  let c1_i32_26 : BitVec 32 := 1#32
  let arg4 : BitVec 32 := Scf.iv c0_i32_25 c1_i32_26 k2_t1
  let c128_i32 : BitVec 32 := 128#32
  let v100 : BitVec 32 := Scalar.muli arg4 c128_i32
  let v101 : Index := Scalar.indexCast v100
  ![0, v101.toNat]
def k2_off2 (k2_t1 : Fin k2_t1_loop.trips) : Fin 2 → Nat :=
  let c0_i32_25 : BitVec 32 := 0#32
  let c1_i32_26 : BitVec 32 := 1#32
  let arg4 : BitVec 32 := Scf.iv c0_i32_25 c1_i32_26 k2_t1
  let c128_i32_50 : BitVec 32 := 128#32
  let v181 : BitVec 32 := Scalar.muli arg4 c128_i32_50
  let v182 : Index := Scalar.indexCast v181
  let c0_51 : Index := 0#32
  ![v182.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S8x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4096x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x4096x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4096x3 : Shape := ⟨2, ![4096, 3]⟩
abbrev S4096x1 : Shape := ⟨2, ![4096, 1]⟩
abbrev S4096 : Shape := ⟨1, ![4096]⟩
abbrev S4x4 : Shape := ⟨2, ![4, 4]⟩
abbrev S_ : Shape := ⟨0, ![]⟩
abbrev S4096x4 : Shape := ⟨2, ![4096, 4]⟩
abbrev S3x3 : Shape := ⟨2, ![3, 3]⟩
abbrev S1x3 : Shape := ⟨2, ![1, 3]⟩
abbrev S16 : Shape := ⟨1, ![16]⟩
abbrev S16x1 : Shape := ⟨2, ![16, 1]⟩
abbrev S1x4096 : Shape := ⟨2, ![1, 4096]⟩
abbrev S16x4096 : Shape := ⟨2, ![16, 4096]⟩
abbrev S1x16 : Shape := ⟨2, ![1, 16]⟩
abbrev S4096x16 : Shape := ⟨2, ![4096, 16]⟩
abbrev S16x4096x1 : Shape := ⟨3, ![16, 4096, 1]⟩
abbrev S16x4096x3 : Shape := ⟨3, ![16, 4096, 3]⟩
abbrev S4x4x64x64x3 : Shape := ⟨5, ![4, 4, 64, 64, 3]⟩
abbrev S4x64x4x64x3 : Shape := ⟨5, ![4, 64, 4, 64, 3]⟩
abbrev S256x256x3 : Shape := ⟨3, ![256, 256, 3]⟩
abbrev S4x4x64x64x1 : Shape := ⟨5, ![4, 4, 64, 64, 1]⟩
abbrev S4x64x4x64x1 : Shape := ⟨5, ![4, 64, 4, 64, 1]⟩
abbrev S256x256x1 : Shape := ⟨3, ![256, 256, 1]⟩

abbrev nBuf : Space → Nat
  | .hbm => 339
  | .vmem => 0
  | .smem => 0
  | _ => 0

abbrev hbmTy0_0 (i : Nat) : BufTy := match i % 128 with
  | 0 => ⟨S4096x3, .f32⟩
  | 1 => ⟨S4096x1, .f32⟩
  | 2 => ⟨S4096, .f32⟩
  | 3 => ⟨S4096x3, .f32⟩
  | 4 => ⟨S4x4, .f32⟩
  | 5 => ⟨S4x4, .f32⟩
  | 6 => ⟨S4096x1, .f32⟩
  | 7 => ⟨S_, .f32⟩
  | 8 => ⟨S4096x1, .f32⟩
  | 9 => ⟨S4096x4, .f32⟩
  | 10 => ⟨S4096x4, .f32⟩
  | 11 => ⟨S4096x4, .f32⟩
  | 12 => ⟨S4096x1, .f32⟩
  | 13 => ⟨S4096, .f32⟩
  | 14 => ⟨S_, .f32⟩
  | 15 => ⟨S4096, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096, .f32⟩
  | 22 => ⟨S4096, .f32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S_, .f32⟩
  | 30 => ⟨S4096, .f32⟩
  | 31 => ⟨S4096, .f32⟩
  | 32 => ⟨S_, .f32⟩
  | 33 => ⟨S4096, .f32⟩
  | 34 => ⟨S4096, .f32⟩
  | 35 => ⟨S4096x1, .f32⟩
  | 36 => ⟨S4096, .f32⟩
  | 37 => ⟨S4096, .f32⟩
  | 38 => ⟨S_, .f32⟩
  | 39 => ⟨S4096, .f32⟩
  | 40 => ⟨S4096, .f32⟩
  | 41 => ⟨S_, .f32⟩
  | 42 => ⟨S4096, .f32⟩
  | 43 => ⟨S4096, .f32⟩
  | 44 => ⟨S_, .f32⟩
  | 45 => ⟨S4096, .f32⟩
  | 46 => ⟨S4096, .f32⟩
  | 47 => ⟨S_, .f32⟩
  | 48 => ⟨S4096, .f32⟩
  | 49 => ⟨S4096, .f32⟩
  | 50 => ⟨S4096x1, .f32⟩
  | 51 => ⟨S4096, .f32⟩
  | 52 => ⟨S3x3, .f32⟩
  | 53 => ⟨S4096x3, .f32⟩
  | 54 => ⟨S1x3, .f32⟩
  | 55 => ⟨S4096x3, .f32⟩
  | 56 => ⟨S4096x3, .f32⟩
  | 57 => ⟨S4096x1, .f32⟩
  | 58 => ⟨S4096, .f32⟩
  | 59 => ⟨S_, .f32⟩
  | 60 => ⟨S4096, .f32⟩
  | 61 => ⟨S4096, .f32⟩
  | 62 => ⟨S4096, .f32⟩
  | 63 => ⟨S_, .f32⟩
  | 64 => ⟨S4096, .f32⟩
  | 65 => ⟨S4096, .f32⟩
  | 66 => ⟨S4096, .f32⟩
  | 67 => ⟨S4096, .f32⟩
  | 68 => ⟨S_, .f32⟩
  | 69 => ⟨S4096, .f32⟩
  | 70 => ⟨S4096, .f32⟩
  | 71 => ⟨S4096, .f32⟩
  | 72 => ⟨S_, .f32⟩
  | 73 => ⟨S_, .f32⟩
  | 74 => ⟨S_, .f32⟩
  | 75 => ⟨S4096, .f32⟩
  | 76 => ⟨S4096, .f32⟩
  | 77 => ⟨S_, .f32⟩
  | 78 => ⟨S4096, .f32⟩
  | 79 => ⟨S4096, .f32⟩
  | 80 => ⟨S4096, .f32⟩
  | 81 => ⟨S_, .f32⟩
  | 82 => ⟨S_, .f32⟩
  | 83 => ⟨S_, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S_, .f32⟩
  | 91 => ⟨S_, .f32⟩
  | 92 => ⟨S_, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096, .f32⟩
  | 99 => ⟨S_, .f32⟩
  | 100 => ⟨S_, .f32⟩
  | 101 => ⟨S_, .f32⟩
  | 102 => ⟨S4096, .f32⟩
  | 103 => ⟨S4096, .f32⟩
  | 104 => ⟨S_, .f32⟩
  | 105 => ⟨S4096, .f32⟩
  | 106 => ⟨S4096, .f32⟩
  | 107 => ⟨S16, .i32⟩
  | 108 => ⟨S_, .i32⟩
  | 109 => ⟨S16, .i32⟩
  | 110 => ⟨S16, .i32⟩
  | 111 => ⟨S_, .i32⟩
  | 112 => ⟨S16, .i32⟩
  | 113 => ⟨S16, .i32⟩
  | 114 => ⟨S16, .f32⟩
  | 115 => ⟨S_, .i32⟩
  | 116 => ⟨S16, .i32⟩
  | 117 => ⟨S16, .i32⟩
  | 118 => ⟨S_, .i32⟩
  | 119 => ⟨S16, .i32⟩
  | 120 => ⟨S16, .i32⟩
  | 121 => ⟨S16, .f32⟩
  | 122 => ⟨S4096, .i32⟩
  | 123 => ⟨S16x1, .f32⟩
  | 124 => ⟨S_, .i32⟩
  | 125 => ⟨S4096, .i32⟩
  | 126 => ⟨S4096, .i32⟩
  | 127 => ⟨S4096, .f32⟩
  | _ => ⟨S4096x3, .f32⟩

abbrev hbmTy0_1 (i : Nat) : BufTy := match i % 128 with
  | 0 => ⟨S1x4096, .f32⟩
  | 1 => ⟨S16x4096, .f32⟩
  | 2 => ⟨S16x4096, .f32⟩
  | 3 => ⟨S16x4096, .f32⟩
  | 4 => ⟨S16x1, .f32⟩
  | 5 => ⟨S_, .i32⟩
  | 6 => ⟨S4096, .i32⟩
  | 7 => ⟨S4096, .i32⟩
  | 8 => ⟨S4096, .f32⟩
  | 9 => ⟨S1x4096, .f32⟩
  | 10 => ⟨S16x4096, .f32⟩
  | 11 => ⟨S16x4096, .f32⟩
  | 12 => ⟨S16x4096, .f32⟩
  | 13 => ⟨S4096x1, .f32⟩
  | 14 => ⟨S1x16, .f32⟩
  | 15 => ⟨S4096x16, .f32⟩
  | 16 => ⟨S4096x16, .f32⟩
  | 17 => ⟨S4096x16, .f32⟩
  | 18 => ⟨S4096x1, .f32⟩
  | 19 => ⟨S1x16, .f32⟩
  | 20 => ⟨S4096x16, .f32⟩
  | 21 => ⟨S4096x16, .f32⟩
  | 22 => ⟨S4096x16, .f32⟩
  | 23 => ⟨S4096x1, .f32⟩
  | 24 => ⟨S_, .f32⟩
  | 25 => ⟨S16, .f32⟩
  | 26 => ⟨S16, .f32⟩
  | 27 => ⟨S1x16, .f32⟩
  | 28 => ⟨S4096x16, .f32⟩
  | 29 => ⟨S4096x16, .f32⟩
  | 30 => ⟨S4096x16, .f32⟩
  | 31 => ⟨S4096x1, .f32⟩
  | 32 => ⟨S_, .f32⟩
  | 33 => ⟨S16, .f32⟩
  | 34 => ⟨S16, .f32⟩
  | 35 => ⟨S1x16, .f32⟩
  | 36 => ⟨S4096x16, .f32⟩
  | 37 => ⟨S4096x16, .f32⟩
  | 38 => ⟨S4096x16, .f32⟩
  | 39 => ⟨S4096x16, .i1⟩
  | 40 => ⟨S4096x16, .i1⟩
  | 41 => ⟨S4096x16, .i1⟩
  | 42 => ⟨S4096x1, .f32⟩
  | 43 => ⟨S_, .f32⟩
  | 44 => ⟨S_, .f32⟩
  | 45 => ⟨S4096x16, .f32⟩
  | 46 => ⟨S4096x16, .f32⟩
  | 47 => ⟨S4096x16, .f32⟩
  | 48 => ⟨S4096x16, .i32⟩
  | 49 => ⟨S4096x16, .f32⟩
  | 50 => ⟨S4096x16, .i32⟩
  | 51 => ⟨S4096x16, .i1⟩
  | 52 => ⟨S4096, .f32⟩
  | 53 => ⟨S4096, .f32⟩
  | 54 => ⟨S_, .f32⟩
  | 55 => ⟨S16x4096, .f32⟩
  | 56 => ⟨S_, .f32⟩
  | 57 => ⟨S16x4096, .f32⟩
  | 58 => ⟨S_, .i32⟩
  | 59 => ⟨S4096x16, .i32⟩
  | 60 => ⟨S4096x16, .i1⟩
  | 61 => ⟨S4096, .f32⟩
  | 62 => ⟨S16x4096, .f32⟩
  | 63 => ⟨S4096, .f32⟩
  | 64 => ⟨S16x4096, .f32⟩
  | 65 => ⟨S4096, .f32⟩
  | 66 => ⟨S4096, .f32⟩
  | 67 => ⟨S4096, .f32⟩
  | 68 => ⟨S4096x3, .f32⟩
  | 69 => ⟨S_, .i32⟩
  | 70 => ⟨S16x4096, .f32⟩
  | 71 => ⟨S16x4096, .f32⟩
  | 72 => ⟨S16x4096, .f32⟩
  | 73 => ⟨S16x4096, .f32⟩
  | 74 => ⟨S16x4096, .f32⟩
  | 75 => ⟨S16x4096, .f32⟩
  | 76 => ⟨S_, .i32⟩
  | 77 => ⟨S_, .i1⟩
  | 78 => ⟨S_, .i32⟩
  | 79 => ⟨S1x16, .i32⟩
  | 80 => ⟨S16, .i32⟩
  | 81 => ⟨S_, .i32⟩
  | 82 => ⟨S1x16, .i1⟩
  | 83 => ⟨S16, .i1⟩
  | 84 => ⟨S16x1, .i32⟩
  | 85 => ⟨S16, .f32⟩
  | 86 => ⟨S16x1, .f32⟩
  | 87 => ⟨S16x4096, .f32⟩
  | 88 => ⟨S16x4096, .f32⟩
  | 89 => ⟨S16x1, .i32⟩
  | 90 => ⟨S16, .f32⟩
  | 91 => ⟨S16x1, .f32⟩
  | 92 => ⟨S16x4096, .f32⟩
  | 93 => ⟨S16x4096, .f32⟩
  | 94 => ⟨S16x4096, .f32⟩
  | 95 => ⟨S16x4096, .f32⟩
  | 96 => ⟨S16x4096, .f32⟩
  | 97 => ⟨S_, .f32⟩
  | 98 => ⟨S16x4096, .f32⟩
  | 99 => ⟨S16x4096, .f32⟩
  | 100 => ⟨S16x1, .i32⟩
  | 101 => ⟨S16, .f32⟩
  | 102 => ⟨S16x1, .f32⟩
  | 103 => ⟨S16x4096, .f32⟩
  | 104 => ⟨S16x4096, .f32⟩
  | 105 => ⟨S16x4096, .f32⟩
  | 106 => ⟨S16x1, .i1⟩
  | 107 => ⟨S16x1, .i32⟩
  | 108 => ⟨S16, .f32⟩
  | 109 => ⟨S16x1, .f32⟩
  | 110 => ⟨S_, .f32⟩
  | 111 => ⟨S_, .f32⟩
  | 112 => ⟨S16x1, .f32⟩
  | 113 => ⟨S16x1, .f32⟩
  | 114 => ⟨S16x4096, .f32⟩
  | 115 => ⟨S16x4096, .f32⟩
  | 116 => ⟨S_, .f32⟩
  | 117 => ⟨S16x4096, .f32⟩
  | 118 => ⟨S16x4096, .f32⟩
  | 119 => ⟨S16x1, .i1⟩
  | 120 => ⟨S16x1, .i32⟩
  | 121 => ⟨S16, .f32⟩
  | 122 => ⟨S16x1, .f32⟩
  | 123 => ⟨S_, .f32⟩
  | 124 => ⟨S_, .f32⟩
  | 125 => ⟨S16x1, .f32⟩
  | 126 => ⟨S16x1, .f32⟩
  | 127 => ⟨S16x4096, .f32⟩
  | _ => ⟨S4096x3, .f32⟩

abbrev hbmTy0_2 (i : Nat) : BufTy := match i % 128 with
  | 0 => ⟨S_, .f32⟩
  | 1 => ⟨S16x4096, .f32⟩
  | 2 => ⟨S16x4096, .f32⟩
  | 3 => ⟨S16x4096, .f32⟩
  | 4 => ⟨S16x4096, .f32⟩
  | 5 => ⟨S16x4096, .f32⟩
  | 6 => ⟨S16x4096, .f32⟩
  | 7 => ⟨S16x4096, .f32⟩
  | 8 => ⟨S4096x1, .f32⟩
  | 9 => ⟨S4096, .f32⟩
  | 10 => ⟨S16x1, .i32⟩
  | 11 => ⟨S16, .f32⟩
  | 12 => ⟨S16x1, .f32⟩
  | 13 => ⟨S16x4096, .f32⟩
  | 14 => ⟨S16x4096, .f32⟩
  | 15 => ⟨S16x4096, .f32⟩
  | 16 => ⟨S4096x1, .f32⟩
  | 17 => ⟨S4096, .f32⟩
  | 18 => ⟨S16x1, .i32⟩
  | 19 => ⟨S16, .f32⟩
  | 20 => ⟨S16x1, .f32⟩
  | 21 => ⟨S16x4096, .f32⟩
  | 22 => ⟨S16x4096, .f32⟩
  | 23 => ⟨S16x4096, .f32⟩
  | 24 => ⟨S4096x1, .f32⟩
  | 25 => ⟨S4096, .f32⟩
  | 26 => ⟨S16x1, .i32⟩
  | 27 => ⟨S16, .f32⟩
  | 28 => ⟨S16x1, .f32⟩
  | 29 => ⟨S16x4096, .f32⟩
  | 30 => ⟨S16x4096, .f32⟩
  | 31 => ⟨S16x4096, .f32⟩
  | 32 => ⟨S_, .i32⟩
  | 33 => ⟨S_, .i32⟩
  | 34 => ⟨S16x4096x1, .f32⟩
  | 35 => ⟨S16x4096x1, .f32⟩
  | 36 => ⟨S16x4096x1, .f32⟩
  | 37 => ⟨S16x4096x3, .f32⟩
  | 38 => ⟨S16x4096x1, .f32⟩
  | 39 => ⟨S_, .f32⟩
  | 40 => ⟨S16x4096x1, .f32⟩
  | 41 => ⟨S16x4096x1, .f32⟩
  | 42 => ⟨S_, .f32⟩
  | 43 => ⟨S16x4096x1, .f32⟩
  | 44 => ⟨S16x4096x1, .f32⟩
  | 45 => ⟨S16x4096x3, .f32⟩
  | 46 => ⟨S16x4096x3, .f32⟩
  | 47 => ⟨S_, .f32⟩
  | 48 => ⟨S_, .f32⟩
  | 49 => ⟨S_, .f32⟩
  | 50 => ⟨S16x4096x3, .f32⟩
  | 51 => ⟨S16x4096x3, .f32⟩
  | 52 => ⟨S_, .f32⟩
  | 53 => ⟨S16x4096x3, .f32⟩
  | 54 => ⟨S16x4096x3, .f32⟩
  | 55 => ⟨S4x4x64x64x3, .f32⟩
  | 56 => ⟨S4x64x4x64x3, .f32⟩
  | 57 => ⟨S256x256x3, .f32⟩
  | 58 => ⟨S4x4x64x64x1, .f32⟩
  | 59 => ⟨S4x64x4x64x1, .f32⟩
  | 60 => ⟨S256x256x1, .f32⟩
  | 61 => ⟨S4x4x64x64x1, .f32⟩
  | 62 => ⟨S4x64x4x64x1, .f32⟩
  | 63 => ⟨S256x256x1, .f32⟩
  | 64 => ⟨S3x3, .f32⟩
  | 65 => ⟨S4096x3, .f32⟩
  | 66 => ⟨S1x3, .f32⟩
  | 67 => ⟨S4096x3, .f32⟩
  | 68 => ⟨S4096x3, .f32⟩
  | 69 => ⟨S4096x1, .f32⟩
  | 70 => ⟨S4096, .f32⟩
  | 71 => ⟨S_, .f32⟩
  | 72 => ⟨S4096, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S4096, .f32⟩
  | 80 => ⟨S_, .f32⟩
  | 81 => ⟨S4096, .f32⟩
  | 82 => ⟨S4096, .f32⟩
  | _ => ⟨S4096x3, .f32⟩

abbrev hbmTy (i : Nat) : BufTy := match i / 128 with
  | 0 => hbmTy0_0 i
  | 1 => hbmTy0_1 i
  | 2 => hbmTy0_2 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_cst_14 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_cst_16 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v54 : Ref sig .tc := ⟨.hbm, 88, rfl⟩
abbrev main_v55 : Ref sig .tc := ⟨.hbm, 89, rfl⟩
abbrev main_cst_17 : Ref sig .tc := ⟨.hbm, 90, rfl⟩
abbrev main_cst_18 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v56 : Ref sig .tc := ⟨.hbm, 97, rfl⟩
abbrev main_v57 : Ref sig .tc := ⟨.hbm, 98, rfl⟩
abbrev main_cst_19 : Ref sig .tc := ⟨.hbm, 99, rfl⟩
abbrev main_cst_20 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v58 : Ref sig .tc := ⟨.hbm, 106, rfl⟩
abbrev main_v59 : Ref sig .tc := ⟨.hbm, 107, rfl⟩
abbrev main_c : Ref sig .tc := ⟨.hbm, 108, rfl⟩
abbrev main_v60 : Ref sig .tc := ⟨.hbm, 109, rfl⟩
abbrev main_v61 : Ref sig .tc := ⟨.hbm, 110, rfl⟩
abbrev main_c_21 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_c_22 : Ref sig .tc := ⟨.hbm, 115, rfl⟩
abbrev main_v65 : Ref sig .tc := ⟨.hbm, 116, rfl⟩
abbrev main_v66 : Ref sig .tc := ⟨.hbm, 117, rfl⟩
abbrev main_c_23 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_c_24 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_25 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_26 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_27 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_28 : Ref sig .tc := ⟨.hbm, 171, rfl⟩
abbrev main_call4_v0 : Ref sig .tc := ⟨.hbm, 172, rfl⟩
abbrev main_call4_v1 : Ref sig .tc := ⟨.hbm, 173, rfl⟩
abbrev main_call4_v2 : Ref sig .tc := ⟨.hbm, 174, rfl⟩
abbrev main_v115 : Ref sig .tc := ⟨.hbm, 175, rfl⟩
abbrev main_v116 : Ref sig .tc := ⟨.hbm, 176, rfl⟩
abbrev main_v117_0 : Ref sig .tc := ⟨.hbm, 177, rfl⟩
abbrev main_v117_1 : Ref sig .tc := ⟨.hbm, 178, rfl⟩
abbrev main_v117_2 : Ref sig .tc := ⟨.hbm, 179, rfl⟩
abbrev main_v118 : Ref sig .tc := ⟨.hbm, 180, rfl⟩
abbrev main_v119 : Ref sig .tc := ⟨.hbm, 181, rfl⟩
abbrev main_cst_29 : Ref sig .tc := ⟨.hbm, 182, rfl⟩
abbrev main_v120 : Ref sig .tc := ⟨.hbm, 183, rfl⟩
abbrev main_cst_30 : Ref sig .tc := ⟨.hbm, 184, rfl⟩
abbrev main_v121 : Ref sig .tc := ⟨.hbm, 185, rfl⟩
abbrev main_c_31 : Ref sig .tc := ⟨.hbm, 186, rfl⟩
abbrev main_v122_0 : Ref sig .tc := ⟨.hbm, 187, rfl⟩
abbrev main_v122_1 : Ref sig .tc := ⟨.hbm, 188, rfl⟩
abbrev main_v122_2 : Ref sig .tc := ⟨.hbm, 189, rfl⟩
abbrev main_v122_3 : Ref sig .tc := ⟨.hbm, 190, rfl⟩
abbrev main_v122_4 : Ref sig .tc := ⟨.hbm, 191, rfl⟩
abbrev main_v122_5 : Ref sig .tc := ⟨.hbm, 192, rfl⟩
abbrev main_v122_6 : Ref sig .tc := ⟨.hbm, 193, rfl⟩
abbrev main_v122_7 : Ref sig .tc := ⟨.hbm, 194, rfl⟩
abbrev main_v122_8 : Ref sig .tc := ⟨.hbm, 195, rfl⟩
abbrev main_v122_9 : Ref sig .tc := ⟨.hbm, 196, rfl⟩
abbrev main_v122_10 : Ref sig .tc := ⟨.hbm, 197, rfl⟩
abbrev main_v122_11 : Ref sig .tc := ⟨.hbm, 198, rfl⟩
abbrev main_v122_12 : Ref sig .tc := ⟨.hbm, 199, rfl⟩
abbrev main_v122_13 : Ref sig .tc := ⟨.hbm, 200, rfl⟩
abbrev main_v122_14 : Ref sig .tc := ⟨.hbm, 201, rfl⟩
abbrev main_v122_15 : Ref sig .tc := ⟨.hbm, 202, rfl⟩
abbrev main_v122_16 : Ref sig .tc := ⟨.hbm, 203, rfl⟩
abbrev main_while0c_c_55 : Ref sig .tc := ⟨.hbm, 204, rfl⟩
abbrev main_while0c_v160 : Ref sig .tc := ⟨.hbm, 205, rfl⟩
abbrev main_while0b_call5_c : Ref sig .tc := ⟨.hbm, 206, rfl⟩
abbrev main_while0b_call5_v0 : Ref sig .tc := ⟨.hbm, 207, rfl⟩
abbrev main_while0b_v160 : Ref sig .tc := ⟨.hbm, 208, rfl⟩
abbrev main_while0b_call6_c : Ref sig .tc := ⟨.hbm, 209, rfl⟩
abbrev main_while0b_call6_v0 : Ref sig .tc := ⟨.hbm, 210, rfl⟩
abbrev main_while0b_v161 : Ref sig .tc := ⟨.hbm, 211, rfl⟩
abbrev main_while0b_v162 : Ref sig .tc := ⟨.hbm, 212, rfl⟩
abbrev main_while0b_v163 : Ref sig .tc := ⟨.hbm, 213, rfl⟩
abbrev main_while0b_v164 : Ref sig .tc := ⟨.hbm, 214, rfl⟩
abbrev main_while0b_v165 : Ref sig .tc := ⟨.hbm, 215, rfl⟩
abbrev main_while0b_v166 : Ref sig .tc := ⟨.hbm, 216, rfl⟩
abbrev main_while0b_v167 : Ref sig .tc := ⟨.hbm, 217, rfl⟩
abbrev main_while0b_v168 : Ref sig .tc := ⟨.hbm, 218, rfl⟩
abbrev main_while0b_v169 : Ref sig .tc := ⟨.hbm, 219, rfl⟩
abbrev main_while0b_v170 : Ref sig .tc := ⟨.hbm, 220, rfl⟩
abbrev main_while0b_v171 : Ref sig .tc := ⟨.hbm, 221, rfl⟩
abbrev main_while0b_v172 : Ref sig .tc := ⟨.hbm, 222, rfl⟩
abbrev main_while0b_v173 : Ref sig .tc := ⟨.hbm, 223, rfl⟩
abbrev main_while0b_v174 : Ref sig .tc := ⟨.hbm, 224, rfl⟩
abbrev main_while0b_cst_55 : Ref sig .tc := ⟨.hbm, 225, rfl⟩
abbrev main_while0b_v175 : Ref sig .tc := ⟨.hbm, 226, rfl⟩
abbrev main_while0b_v176 : Ref sig .tc := ⟨.hbm, 227, rfl⟩
abbrev main_while0b_v177 : Ref sig .tc := ⟨.hbm, 228, rfl⟩
abbrev main_while0b_v178 : Ref sig .tc := ⟨.hbm, 229, rfl⟩
abbrev main_while0b_v179 : Ref sig .tc := ⟨.hbm, 230, rfl⟩
abbrev main_while0b_v180 : Ref sig .tc := ⟨.hbm, 231, rfl⟩
abbrev main_while0b_v181 : Ref sig .tc := ⟨.hbm, 232, rfl⟩
abbrev main_while0b_v182 : Ref sig .tc := ⟨.hbm, 233, rfl⟩
abbrev main_while0b_v183 : Ref sig .tc := ⟨.hbm, 234, rfl⟩
abbrev main_while0b_v184 : Ref sig .tc := ⟨.hbm, 235, rfl⟩
abbrev main_while0b_v185 : Ref sig .tc := ⟨.hbm, 236, rfl⟩
abbrev main_while0b_v186 : Ref sig .tc := ⟨.hbm, 237, rfl⟩
abbrev main_while0b_cst_56 : Ref sig .tc := ⟨.hbm, 238, rfl⟩
abbrev main_while0b_call7_v0 : Ref sig .tc := ⟨.hbm, 239, rfl⟩
abbrev main_while0b_call7_v1 : Ref sig .tc := ⟨.hbm, 240, rfl⟩
abbrev main_while0b_v187 : Ref sig .tc := ⟨.hbm, 241, rfl⟩
abbrev main_while0b_v188 : Ref sig .tc := ⟨.hbm, 242, rfl⟩
abbrev main_while0b_v189 : Ref sig .tc := ⟨.hbm, 243, rfl⟩
abbrev main_while0b_cst_57 : Ref sig .tc := ⟨.hbm, 244, rfl⟩
abbrev main_while0b_v190 : Ref sig .tc := ⟨.hbm, 245, rfl⟩
abbrev main_while0b_v191 : Ref sig .tc := ⟨.hbm, 246, rfl⟩
abbrev main_while0b_v192 : Ref sig .tc := ⟨.hbm, 247, rfl⟩
abbrev main_while0b_v193 : Ref sig .tc := ⟨.hbm, 248, rfl⟩
abbrev main_while0b_v194 : Ref sig .tc := ⟨.hbm, 249, rfl⟩
abbrev main_while0b_v195 : Ref sig .tc := ⟨.hbm, 250, rfl⟩
abbrev main_while0b_cst_58 : Ref sig .tc := ⟨.hbm, 251, rfl⟩
abbrev main_while0b_call8_v0 : Ref sig .tc := ⟨.hbm, 252, rfl⟩
abbrev main_while0b_call8_v1 : Ref sig .tc := ⟨.hbm, 253, rfl⟩
abbrev main_while0b_v196 : Ref sig .tc := ⟨.hbm, 254, rfl⟩
abbrev main_while0b_v197 : Ref sig .tc := ⟨.hbm, 255, rfl⟩
abbrev main_while0b_cst_59 : Ref sig .tc := ⟨.hbm, 256, rfl⟩
abbrev main_while0b_v198 : Ref sig .tc := ⟨.hbm, 257, rfl⟩
abbrev main_while0b_v199 : Ref sig .tc := ⟨.hbm, 258, rfl⟩
abbrev main_while0b_v200 : Ref sig .tc := ⟨.hbm, 259, rfl⟩
abbrev main_while0b_v201 : Ref sig .tc := ⟨.hbm, 260, rfl⟩
abbrev main_while0b_v202 : Ref sig .tc := ⟨.hbm, 261, rfl⟩
abbrev main_while0b_v203 : Ref sig .tc := ⟨.hbm, 262, rfl⟩
abbrev main_while0b_v204 : Ref sig .tc := ⟨.hbm, 263, rfl⟩
abbrev main_while0b_v205 : Ref sig .tc := ⟨.hbm, 264, rfl⟩
abbrev main_while0b_v206 : Ref sig .tc := ⟨.hbm, 265, rfl⟩
abbrev main_while0b_v207 : Ref sig .tc := ⟨.hbm, 266, rfl⟩
abbrev main_while0b_v208 : Ref sig .tc := ⟨.hbm, 267, rfl⟩
abbrev main_while0b_v209 : Ref sig .tc := ⟨.hbm, 268, rfl⟩
abbrev main_while0b_v210 : Ref sig .tc := ⟨.hbm, 269, rfl⟩
abbrev main_while0b_v211 : Ref sig .tc := ⟨.hbm, 270, rfl⟩
abbrev main_while0b_v212 : Ref sig .tc := ⟨.hbm, 271, rfl⟩
abbrev main_while0b_v213 : Ref sig .tc := ⟨.hbm, 272, rfl⟩
abbrev main_while0b_v214 : Ref sig .tc := ⟨.hbm, 273, rfl⟩
abbrev main_while0b_v215 : Ref sig .tc := ⟨.hbm, 274, rfl⟩
abbrev main_while0b_v216 : Ref sig .tc := ⟨.hbm, 275, rfl⟩
abbrev main_while0b_v217 : Ref sig .tc := ⟨.hbm, 276, rfl⟩
abbrev main_while0b_v218 : Ref sig .tc := ⟨.hbm, 277, rfl⟩
abbrev main_while0b_v219 : Ref sig .tc := ⟨.hbm, 278, rfl⟩
abbrev main_while0b_v220 : Ref sig .tc := ⟨.hbm, 279, rfl⟩
abbrev main_while0b_v221 : Ref sig .tc := ⟨.hbm, 280, rfl⟩
abbrev main_while0b_v222 : Ref sig .tc := ⟨.hbm, 281, rfl⟩
abbrev main_while0b_v223 : Ref sig .tc := ⟨.hbm, 282, rfl⟩
abbrev main_while0b_v224 : Ref sig .tc := ⟨.hbm, 283, rfl⟩
abbrev main_while0b_v225 : Ref sig .tc := ⟨.hbm, 284, rfl⟩
abbrev main_while0b_v226 : Ref sig .tc := ⟨.hbm, 285, rfl⟩
abbrev main_while0b_v227 : Ref sig .tc := ⟨.hbm, 286, rfl⟩
abbrev main_while0b_v228 : Ref sig .tc := ⟨.hbm, 287, rfl⟩
abbrev main_while0b_c_60 : Ref sig .tc := ⟨.hbm, 288, rfl⟩
abbrev main_while0b_v229 : Ref sig .tc := ⟨.hbm, 289, rfl⟩
abbrev main_v123 : Ref sig .tc := ⟨.hbm, 290, rfl⟩
abbrev main_v124 : Ref sig .tc := ⟨.hbm, 291, rfl⟩
abbrev main_v125 : Ref sig .tc := ⟨.hbm, 292, rfl⟩
abbrev main_v126 : Ref sig .tc := ⟨.hbm, 293, rfl⟩
abbrev main_v127 : Ref sig .tc := ⟨.hbm, 294, rfl⟩
abbrev main_cst_32 : Ref sig .tc := ⟨.hbm, 295, rfl⟩
abbrev main_v128 : Ref sig .tc := ⟨.hbm, 296, rfl⟩
abbrev main_v129 : Ref sig .tc := ⟨.hbm, 297, rfl⟩
abbrev main_cst_33 : Ref sig .tc := ⟨.hbm, 298, rfl⟩
abbrev main_v130 : Ref sig .tc := ⟨.hbm, 299, rfl⟩
abbrev main_v131 : Ref sig .tc := ⟨.hbm, 300, rfl⟩
abbrev main_v132 : Ref sig .tc := ⟨.hbm, 301, rfl⟩
abbrev main_v133 : Ref sig .tc := ⟨.hbm, 302, rfl⟩
abbrev main_cst_34 : Ref sig .tc := ⟨.hbm, 303, rfl⟩
abbrev main_cst_35 : Ref sig .tc := ⟨.hbm, 304, rfl⟩
abbrev main_call9_v0 : Ref sig .tc := ⟨.hbm, 305, rfl⟩
abbrev main_call9_v1 : Ref sig .tc := ⟨.hbm, 306, rfl⟩
abbrev main_call9_v2 : Ref sig .tc := ⟨.hbm, 307, rfl⟩
abbrev main_call9_v3 : Ref sig .tc := ⟨.hbm, 308, rfl⟩
abbrev main_call9_v4 : Ref sig .tc := ⟨.hbm, 309, rfl⟩
abbrev main_v134 : Ref sig .tc := ⟨.hbm, 310, rfl⟩
abbrev main_v135 : Ref sig .tc := ⟨.hbm, 311, rfl⟩
abbrev main_v136 : Ref sig .tc := ⟨.hbm, 312, rfl⟩
abbrev main_v137 : Ref sig .tc := ⟨.hbm, 313, rfl⟩
abbrev main_v138 : Ref sig .tc := ⟨.hbm, 314, rfl⟩
abbrev main_v139 : Ref sig .tc := ⟨.hbm, 315, rfl⟩
abbrev main_v140 : Ref sig .tc := ⟨.hbm, 316, rfl⟩
abbrev main_v141 : Ref sig .tc := ⟨.hbm, 317, rfl⟩
abbrev main_v142 : Ref sig .tc := ⟨.hbm, 318, rfl⟩
abbrev main_v143 : Ref sig .tc := ⟨.hbm, 319, rfl⟩
abbrev main_v144 : Ref sig .tc := ⟨.hbm, 320, rfl⟩
abbrev main_v145 : Ref sig .tc := ⟨.hbm, 321, rfl⟩
abbrev main_v146 : Ref sig .tc := ⟨.hbm, 322, rfl⟩
abbrev main_v147 : Ref sig .tc := ⟨.hbm, 323, rfl⟩
abbrev main_v148 : Ref sig .tc := ⟨.hbm, 324, rfl⟩
abbrev main_v149 : Ref sig .tc := ⟨.hbm, 325, rfl⟩
abbrev main_v150 : Ref sig .tc := ⟨.hbm, 326, rfl⟩
abbrev main_cst_36 : Ref sig .tc := ⟨.hbm, 327, rfl⟩
abbrev main_v151 : Ref sig .tc := ⟨.hbm, 328, rfl⟩
abbrev main_v152 : Ref sig .tc := ⟨.hbm, 329, rfl⟩
abbrev main_v153 : Ref sig .tc := ⟨.hbm, 330, rfl⟩
abbrev main_cst_37 : Ref sig .tc := ⟨.hbm, 331, rfl⟩
abbrev main_v154 : Ref sig .tc := ⟨.hbm, 332, rfl⟩
abbrev main_v155 : Ref sig .tc := ⟨.hbm, 333, rfl⟩
abbrev main_v156 : Ref sig .tc := ⟨.hbm, 334, rfl⟩
abbrev main_v157 : Ref sig .tc := ⟨.hbm, 335, rfl⟩
abbrev main_cst_38 : Ref sig .tc := ⟨.hbm, 336, rfl⟩
abbrev main_v158 : Ref sig .tc := ⟨.hbm, 337, rfl⟩
abbrev main_v159 : Ref sig .tc := ⟨.hbm, 338, rfl⟩

abbrev nD : Nat := 1
abbrev τ : Topo := Topo.v7x

variable {F : FTy → Type} [FloatOps F]

abbrev main_while0_count : Scf.Loop 32 := ⟨0#32, 4096#32, 1#32⟩
-- ==== Proof.Spec.lean ====
/- The mathematics of the picture: what every point of the scene becomes on the screen, as plain functions on
   extended reals. -/
module

public import Idealize.ShloMosaic.Lib.StableHlo
public import Idealize.ShloMosaic.PureOps
public import Idealize.ShloMosaic.Lib.Pointwise
public import Idealize.ShloMosaic.Lib.Tactic

@[expose] public section

noncomputable section

namespace Cert.Splat

open Idealize.ShloMosaic

/-- The six inputs, read as tables of numbers. -/
structure Scene where
  mean : Fin 4096 → Fin 3 → EReal
  opacity : Fin 4096 → EReal
  scale : Fin 4096 → EReal
  feat : Fin 4096 → Fin 3 → EReal
  view : Fin 4 → Fin 4 → EReal
  proj : Fin 4 → Fin 4 → EReal

/-- The focal length, 128 / tan 30°. -/
abbrev cFocal : EReal := Ideal.ofBits .f32 0x435DB3D7#32
/-- The small number added to the last clip coordinate. -/
abbrev cEps : EReal := Ideal.ofBits .f32 0x358637BD#32
/-- Radii are five sizes. -/
abbrev cFive : EReal := Ideal.ofBits .f32 0x40A00000#32
/-- The last pixel's coordinate, 255. -/
abbrev cLast : EReal := Ideal.ofBits .f32 0x437F0000#32
/-- The picture's width, 256. -/
abbrev cWidth : EReal := Ideal.ofBits .f32 0x43800000#32
/-- One half. -/
abbrev cHalf : EReal := Ideal.ofBits .f32 0x3F000000#32
/-- Minus one half. -/
abbrev cNegHalf : EReal := Ideal.ofBits .f32 0xBF000000#32
/-- The extent of a tile, 63. -/
abbrev cTile : EReal := Ideal.ofBits .f32 0x427C0000#32
/-- The largest opacity, 0.99. -/
abbrev cMost : EReal := Ideal.ofBits .f32 0x3F7D70A4#32

namespace Scene

variable (s : Scene)

/-- A point in the camera's frame, one of four coordinates. -/
def cam (i : Fin 4096) (k : Fin 4) : EReal :=
  s.mean i 0 * s.view 0 k + s.mean i 1 * s.view 1 k + s.mean i 2 * s.view 2 k + s.view 3 k

/-- A point in clip space. -/
def clip (i : Fin 4096) (k : Fin 4) : EReal :=
  s.cam i 0 * s.proj 0 k + s.cam i 1 * s.proj 1 k + s.cam i 2 * s.proj 2 k + s.cam i 3 * s.proj 3 k

/-- The perspective factor. -/
def persp (i : Fin 4096) : EReal := Ideal.div 1 (s.clip i 3 + cEps)

/-- The point's pixel column (`k = 0`) or row (`k = 1`). -/
def pix (i : Fin 4096) (k : Fin 4) : EReal := ((s.clip i k * s.persp i + 1) * cWidth - 1) * cHalf

/-- The depth. -/
def depth (i : Fin 4096) : EReal := s.cam i 2

/-- The size on the screen. -/
def size (i : Fin 4096) : EReal := max (Ideal.div (s.scale i * cFocal) (s.depth i)) (Ideal.div (s.scale i * cFocal) (s.depth i))

/-- The radius on the screen. -/
def radius (i : Fin 4096) : EReal := s.size i * cFive

/-- The lower and upper clamped corners. -/
def lo (i : Fin 4096) (k : Fin 4) : EReal := min cLast (max 0 (s.pix i k - s.radius i))
/-- The upper clamped corner. -/
def hi (i : Fin 4096) (k : Fin 4) : EReal := min cLast (max 0 (s.pix i k + s.radius i))

/-- The nine rows the first kernel function leaves for a point. -/
def row (r : Fin 9) (i : Fin 4096) : EReal :=
  ![s.pix i 0, s.pix i 1, s.size i * s.size i, s.opacity i, s.lo i 0, s.lo i 1, s.hi i 0, s.hi i 1, s.depth i] r

end Scene

end Cert.Splat

end
-- ==== Proof.KProj.lean ====
/- What the first kernel function leaves: the nine rows of numbers per point, and the radii. -/
module

public import proofs.«01_k».proof.Proof.Spec
public import proofs.«01_k».proof.Proof.Gen.KernelIdeal.Frame
public import Idealize.ShloMosaic.Lib.Pipeline.Value
public import Idealize.ShloMosaic.Lib.Pointwise
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Splat

/-- Two zeros are the offset zero. -/
theorem zero2 : (![0, 0] : Fin 2 → Nat) = fun _ => 0 := funext fun a => by fin_cases a <;> rfl

set_option maxRecDepth 16384 in
set_option maxHeartbeats 2000000 in
/-- The radii the first kernel function stores are the specification's. -/
theorem proj_radius (c : Dev nD) (a0 : Memref sig .tc .vmem S3x4096 .f32) (h0 : a0.IsWhole) (a1 : Memref sig .tc .vmem S1x4096 .f32) (h1 : a1.IsWhole)
    (a2 : Memref sig .tc .vmem S1x4096 .f32) (h2 : a2.IsWhole) (a3 : Memref sig .tc .smem S4x4 .f32) (h3 : a3.IsWhole) (a4 : Memref sig .tc .smem S4x4 .f32) (h4 : a4.IsWhole)
    (a5 : Memref sig .tc .smem S4x4 .f32) (h5 : a5.IsWhole) (a6 : Memref sig .tc .vmem S9x4096 .f32) (h6 : a6.IsWhole) (a7 : Memref sig .tc .vmem S1x4096 .f32) (h7 : a7.IsWhole)
    (x0 : Vec Ideal S3x4096 .f32) (x1 : Vec Ideal S1x4096 .f32) (x2 : Vec Ideal S1x4096 .f32) (x3 x4 x5 : Vec Ideal S4x4 .f32) (s : Scene)
    (hm : ∀ i k, x0 (ix2 k i) = s.mean i k) (hs : ∀ i, x1 (ix2 0 i) = s.scale i) (ho : ∀ i, x2 (ix2 0 i) = s.opacity i)
    (hv : ∀ a b, x3 (ix2 a b) = s.view a b) (hv' : ∀ a b, x4 (ix2 a b) = s.view a b) (hp : ∀ a b, x5 (ix2 a b) = s.proj a b) (i : Fin 4096) :
    out0_A_7 c a0 h0 a1 h1 a2 h2 a3 h3 a4 h4 a5 h5 a6 h6 a7 h7 x0 x1 x2 x3 x4 x5 (ix2 0 i) = s.radius i := by
  unfold out0_A_7
  rw [View.read_writes_eq_canon _ _ _ (cover0_A_7 c a0 h0 a1 h1 a2 h2 a3 h3 a4 h4 a5 h5 a6 h6 a7 h7 x0 x1 x2 x3 x4 x5)]
  unfold kernelRun0_A
  dsimp only
  sl_unfold_words
  rw [View.canon_unit_zero zero2]
  simp only [View.readAt_eq_ld, h0.read_unread, h1.read_unread, h2.read_unread, h3.read_unread, h4.read_unread, h5.read_unread]
  unfold_payloads
  pointwise
  simp only [hm, hs, hv, hv', hp]
  rfl

/-- The nine rows the store puts one above the other. -/
theorem pay3_apply (v69 v133 v142 v153 v158 v160 v188 : FVec Ideal S1x4096 .f32) (r : Fin 9) (i : Fin 4096) :
    k0_pay3 v69 v133 v142 v153 v158 v160 v188 (ix2 r i) =
      ![v133 (ix2 0 i), v142 (ix2 0 i), k0_pay1 v153 v158 v160 (ix2 0 i) * k0_pay1 v153 v158 v160 (ix2 0 i), v188 (ix2 0 i),
        min cLast (max 0 (v133 (ix2 0 i) - k0_pay2 v153 v158 v160 (ix2 0 i))), min cLast (max 0 (v142 (ix2 0 i) - k0_pay2 v153 v158 v160 (ix2 0 i))),
        min cLast (max 0 (v133 (ix2 0 i) + k0_pay2 v153 v158 v160 (ix2 0 i))), min cLast (max 0 (v142 (ix2 0 i) + k0_pay2 v153 v158 v160 (ix2 0 i))),
        v69 (ix2 0 i)] r := by
  unfold k0_pay3
  generalize k0_pay1 v153 v158 v160 = S
  generalize k0_pay2 v153 v158 v160 = R
  match r with
  | 0 => pointwise; try rfl
  | 1 => pointwise; try rfl
  | 2 => pointwise; try rfl
  | 3 => pointwise; try rfl
  | 4 => pointwise; try rfl
  | 5 => pointwise; try rfl
  | 6 => pointwise; try rfl
  | 7 => pointwise; try rfl
  | 8 => pointwise; try rfl

/-- Column and row on the screen, in terms of what they are computed from. -/
theorem pay18_apply (v39 : EReal) (v87 v98 v117 : FVec Ideal S1x4096 .f32) (i : Fin 4096) :
    k0_pay18 v39 v87 v98 v117 (ix2 0 i) = ((v98 (ix2 0 i) * Ideal.div 1 (v117 (ix2 0 i) + v87 (ix2 0 i) * v39 + cEps) + 1) * cWidth - 1) * cHalf := by
  pointwise [k0_pay18, k0_pay17]

/-- The pixel rows, at a point. -/
theorem pay19_apply (v39 : EReal) (v87 v109 v117 : FVec Ideal S1x4096 .f32) (i : Fin 4096) :
    k0_pay19 v39 v87 v109 v117 (ix2 0 i) = ((v109 (ix2 0 i) * Ideal.div 1 (v117 (ix2 0 i) + v87 (ix2 0 i) * v39 + cEps) + 1) * cWidth - 1) * cHalf := by
  pointwise [k0_pay19, k0_pay17]

set_option maxRecDepth 16384 in
set_option maxHeartbeats 2000000 in
/-- The nine rows the first kernel function stores are the specification's. -/
theorem proj_rows (c : Dev nD) (a0 : Memref sig .tc .vmem S3x4096 .f32) (h0 : a0.IsWhole) (a1 : Memref sig .tc .vmem S1x4096 .f32) (h1 : a1.IsWhole)
    (a2 : Memref sig .tc .vmem S1x4096 .f32) (h2 : a2.IsWhole) (a3 : Memref sig .tc .smem S4x4 .f32) (h3 : a3.IsWhole) (a4 : Memref sig .tc .smem S4x4 .f32) (h4 : a4.IsWhole)
    (a5 : Memref sig .tc .smem S4x4 .f32) (h5 : a5.IsWhole) (a6 : Memref sig .tc .vmem S9x4096 .f32) (h6 : a6.IsWhole) (a7 : Memref sig .tc .vmem S1x4096 .f32) (h7 : a7.IsWhole)
    (x0 : Vec Ideal S3x4096 .f32) (x1 : Vec Ideal S1x4096 .f32) (x2 : Vec Ideal S1x4096 .f32) (x3 x4 x5 : Vec Ideal S4x4 .f32) (s : Scene)
    (hm : ∀ i k, x0 (ix2 k i) = s.mean i k) (hs : ∀ i, x1 (ix2 0 i) = s.scale i) (ho : ∀ i, x2 (ix2 0 i) = s.opacity i)
    (hv : ∀ a b, x3 (ix2 a b) = s.view a b) (hv' : ∀ a b, x4 (ix2 a b) = s.view a b) (hp : ∀ a b, x5 (ix2 a b) = s.proj a b) (r : Fin 9) (i : Fin 4096) :
    out0_A_6 c a0 h0 a1 h1 a2 h2 a3 h3 a4 h4 a5 h5 a6 h6 a7 h7 x0 x1 x2 x3 x4 x5 (ix2 r i) = s.row r i := by
  unfold out0_A_6
  rw [View.read_writes_eq_canon _ _ _ (cover0_A_6 c a0 h0 a1 h1 a2 h2 a3 h3 a4 h4 a5 h5 a6 h6 a7 h7 x0 x1 x2 x3 x4 x5)]
  unfold kernelRun0_A
  dsimp only
  sl_unfold_words
  rw [View.canon_unit_zero zero2]
  simp only [View.readAt_eq_ld, h0.read_unread, h1.read_unread, h2.read_unread, h3.read_unread, h4.read_unread, h5.read_unread]
  rw [pay3_apply]
  simp only [pay18_apply, pay19_apply]
  pointwise [k0_pay2, k0_pay1, k0_pay4, k0_pay5, k0_pay6, k0_pay7, k0_pay8, k0_pay9, k0_pay10, k0_pay11, k0_pay12, k0_pay13, k0_pay14, k0_pay15, k0_pay16, k0_pay20, k0_pay21, k0_pay22]
  simp only [hm, hs, ho, hv, hv', hp]
  rfl

end Cert.KernelIdeal.Value

end
-- ==== Proof.Math.lean ====
/- The arithmetic of extended reals the sorting function relies on: the rank of a point, the selection of the point of
   a given rank by a sum over all points, and a number put together again from its three roundings. -/
module

public import proofs.«01_k».proof.Proof.Spec

@[expose] public section

noncomputable section

namespace Cert.Splat

open Idealize.ShloMosaic

/-- Point `j` is drawn before point `i`: it is nearer, or as near and of a smaller number. -/
def Before (D : Fin 4096 → EReal) (j i : Fin 4096) : Prop := D j < D i ∨ (D j = D i ∧ j < i)

/-- Whether a point comes before another can be decided. -/
instance (D : Fin 4096 → EReal) (j i : Fin 4096) : Decidable (Before D j i) := Classical.propDecidable _

variable (D : Fin 4096 → EReal)

/-- No point comes before itself. -/
theorem before_irrefl (i : Fin 4096) : ¬ Before D i i := by
  rintro (h | ⟨_, h⟩) <;> exact lt_irrefl _ h

/-- The order of depth is transitive. -/
theorem before_trans {i j k : Fin 4096} (h : Before D i j) (h' : Before D j k) : Before D i k := by
  rcases h with h | ⟨e, h⟩ <;> rcases h' with h' | ⟨e', h'⟩
  · exact .inl (h.trans h')
  · exact .inl (e' ▸ h)
  · exact .inl (e ▸ h')
  · exact .inr ⟨e.trans e', h.trans h'⟩

/-- Of two points one comes before the other. -/
theorem before_total {i j : Fin 4096} (h : i ≠ j) : Before D i j ∨ Before D j i := by
  rcases lt_trichotomy (D i) (D j) with h' | h' | h'
  · exact .inl (.inl h')
  · rcases lt_or_gt_of_ne h with h'' | h''
    · exact .inl (.inr ⟨h', h''⟩)
    · exact .inr (.inr ⟨h'.symm, h''⟩)
  · exact .inr (.inl h')

/-- How many points are drawn before point `i`. -/
def rank (i : Fin 4096) : Nat := (Finset.univ.filter fun j => Before D j i).card

/-- A point that comes before another has the smaller rank. -/
theorem rank_lt_of_before {i j : Fin 4096} (h : Before D i j) : rank D i < rank D j := by
  apply Finset.card_lt_card
  rw [Finset.ssubset_iff_of_subset]
  · exact ⟨i, by simpa using h, by simpa using before_irrefl D i⟩
  · intro k hk
    simp only [Finset.mem_filter, Finset.mem_univ, true_and] at hk ⊢
    exact before_trans D hk h

/-- A rank is below the number of points. -/
theorem rank_lt (i : Fin 4096) : rank D i < 4096 := by
  have h : rank D i < (Finset.univ : Finset (Fin 4096)).card := by
    apply Finset.card_lt_card
    rw [Finset.ssubset_iff_of_subset (Finset.filter_subset _ _)]
    exact ⟨i, Finset.mem_univ _, by simpa using before_irrefl D i⟩
  simpa using h

/-- No two points have the same rank. -/
theorem rank_injective : Function.Injective (fun i => (⟨rank D i, rank_lt D i⟩ : Fin 4096)) := by
  intro i j h
  by_contra hne
  have h' : rank D i = rank D j := by simpa using h
  rcases before_total D hne with hb | hb
  · exact absurd h' (rank_lt_of_before D hb).ne
  · exact absurd h'.symm (rank_lt_of_before D hb).ne

/-- Every point's place in the drawing order. -/
def place : Fin 4096 ≃ Fin 4096 :=
  Equiv.ofBijective _ (Finite.injective_iff_bijective.mp (rank_injective D))

/-- The point drawn at place `n`. -/
def pick (n : Fin 4096) : Fin 4096 := (place D).symm n

/-- The point picked at place `n` has rank `n`. -/
theorem rank_pick (n : Fin 4096) : rank D (pick D n) = n.val :=
  congrArg Fin.val ((place D).apply_symm_apply n)

/-- A point has rank `n` exactly when it is the one picked there. -/
theorem rank_eq_iff (i n : Fin 4096) : rank D i = n.val ↔ i = pick D n := by
  constructor
  · intro h
    have : place D i = n := Fin.ext h
    rw [← this]; exact ((place D).symm_apply_apply i).symm
  · rintro rfl; exact rank_pick D n

/-- The points are picked in the order of depth. -/
theorem before_pick {m n : Fin 4096} (h : m < n) : Before D (pick D m) (pick D n) := by
  have hne : pick D m ≠ pick D n := fun e => h.ne ((place D).symm.injective e)
  rcases before_total D hne with hb | hb
  · exact hb
  · have := rank_lt_of_before D hb
    rw [rank_pick, rank_pick] at this
    exact absurd h (not_lt.mpr (le_of_lt this))

/-- Counting with ones and zeros is the rank. -/
theorem sum_before (i : Fin 4096) : (∑ j, if Before D j i then (1 : EReal) else 0) = ((rank D i : ℝ) : EReal) := by
  rw [Finset.sum_boole]
  rfl

/-- A number as its three roundings leave it. -/
def again (x : EReal) : EReal := x + (x - x) + ((x - x) - (x - x))

/-- A real number comes back. -/
theorem again_coe (x : ℝ) : again x = x := by
  unfold again
  norm_cast
  simp

/-- A finite number comes back. -/
theorem again_of_finite {x : EReal} (h : x ≠ ⊤) (h' : x ≠ ⊥) : again x = x := by
  lift x to ℝ using ⟨h, h'⟩
  exact again_coe x

/-- Plus infinity comes back as minus infinity. -/
@[simp] theorem again_top : again ⊤ = ⊥ := by simp [again]
/-- Minus infinity comes back. -/
@[simp] theorem again_bot : again ⊥ = ⊥ := by simp [again]

/-- Selecting one point by a factor that is 1 there and 0 elsewhere. -/
theorem sum_select (f w : Fin 4096 → EReal) (p : Fin 4096) (hw : ∀ x, w x = if x = p then 1 else 0) :
    ∑ x, f x * w x = f p := by
  rw [Finset.sum_eq_single p]
  · rw [hw, if_pos rfl, mul_one]
  · intro b _ hb; rw [hw, if_neg hb, mul_zero]
  · intro h; exact absurd (Finset.mem_univ _) h

/-- The same with the factor on the left. -/
theorem sum_select' (f w : Fin 4096 → EReal) (p : Fin 4096) (hw : ∀ x, w x = if x = p then 1 else 0) :
    ∑ x, w x * f x = f p := by
  simp only [fun x => mul_comm (w x) (f x)]
  exact sum_select f w p hw

end Cert.Splat

end
-- ==== Proof.KRank.lean ====
/- The sorting kernel function counts, for every point, the points in front of it. Every payload of the count is read
   here at an index: a sum over one block of 512 points. -/
module

public import proofs.«01_k».proof.Proof.Math
public import proofs.«01_k».proof.Proof.Gen.KernelIdeal.Frame
public import Idealize.ShloMosaic.Lib.Pipeline.Value
public import Idealize.ShloMosaic.Lib.Pointwise
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Splat

set_option maxRecDepth 16384
set_option maxHeartbeats 2000000

/-- One comparison of the count, as the kernel spells it: 1 when point `j` comes before point `i`, else 0. -/
def bit (D : Fin 4096 → EReal) (j i : Fin 4096) : EReal :=
  FloatOps.sitofp (F := Ideal) FTy.f32 (BitVec.setWidth 32
    (IntOp.ori (BitVec.ofBool (decide (D j < D i)))
      (IntOp.andi (BitVec.ofBool (decide (D j = D i)))
        (IntOp.cmpi CmpIPredicate.slt (BitVec.ofNat 32 j.val) (BitVec.ofNat 32 i.val)))))

/-- The count of one block of 512 points, starting at point `o`. -/
def blk (D : Fin 4096 → EReal) (o : Nat) (ho : o + 512 ≤ 4096) (i : Fin 4096) : EReal :=
  ∑ x : Fin 512, bit D ⟨o + x.val, by omega⟩ i

/-- The selection of the point of rank `128 k + n`, as the kernel spells it: 1 when the count `a` is that number, else
    0. -/
def hot (a : EReal) (k : Nat) (n : Fin 128) : EReal :=
  FloatOps.sitofp (F := Ideal) FTy.f32 (BitVec.setWidth 32 (BitVec.ofBool (decide (a =
    FloatOps.sitofp (F := Ideal) FTy.f32
      (IntOp.addi (BitVec.ofNat 32 n.val) (Scalar.muli (Scf.iv 0#32 1#32 k) 128#32))))))

/-- The eight columns of a point: its three features, its depth, a one and three zeros. -/
def colOf (D : Fin 4096 → EReal) (f : Fin 4096 → Fin 3 → EReal) (x : Fin 4096) (q : Fin 8) : EReal :=
  if h : q.val < 3 then f x ⟨q.val, h⟩ else if q.val - 3 < 1 then D x else if q.val - 3 - 1 < 1 then 1 else 0

/-- An entry of the block of sorted rows: three sums over all the points. -/
theorem pay1_apply (v277 : FVec Ideal S4096x1 .f32) (v296 : FVec Ideal S8x4096 .f32) (k : Fin k1_t1_loop.trips)
    (r : Fin 8) (n : Fin 128) :
    k1_pay1 v277 v296 k (ix2 r n) =
      (∑ x : Fin 4096, v296 (ix2 r x) * hot (v277 (ix2 x 0)) k.val n)
      + (∑ x : Fin 4096, (v296 (ix2 r x) - v296 (ix2 r x)) * hot (v277 (ix2 x 0)) k.val n)
      + ∑ x : Fin 4096, ((v296 (ix2 r x) - v296 (ix2 r x)) - (v296 (ix2 r x) - v296 (ix2 r x)))
          * hot (v277 (ix2 x 0)) k.val n := by
  pointwise [k1_pay1]
  simp only [hot]

/-- A truth value as a number is 1 or 0. -/
theorem bool_word (b : Bool) : FloatOps.sitofp (F := Ideal) FTy.f32 (BitVec.setWidth 32 (BitVec.ofBool b)) = if b then 1 else 0 := by
  cases b
  · show ((((BitVec.setWidth 32 (BitVec.ofBool false)).toInt : ℝ)) : EReal) = _
    rw [show (BitVec.setWidth 32 (BitVec.ofBool false)).toInt = 0 from by decide]; simp
  · show ((((BitVec.setWidth 32 (BitVec.ofBool true)).toInt : ℝ)) : EReal) = _
    rw [show (BitVec.setWidth 32 (BitVec.ofBool true)).toInt = 1 from by decide]; simp

/-- The word of a point's number read back. -/
theorem toInt_small (n : Nat) (h : n < 4096) : (BitVec.ofNat 32 n).toInt = n := by
  rw [BitVec.toInt_eq_toNat_of_lt (by simp only [BitVec.toNat_ofNat]; omega), BitVec.toNat_ofNat]
  congr 1; omega

/-- Comparing the words of two points' numbers compares the numbers. -/
theorem slt_small (a b : Fin 4096) : IntOp.cmpi CmpIPredicate.slt (BitVec.ofNat 32 a.val) (BitVec.ofNat 32 b.val) = BitVec.ofBool (decide (a < b)) := by
  show BitVec.ofBool (BitVec.slt _ _) = _
  rw [BitVec.slt, toInt_small _ a.isLt, toInt_small _ b.isLt]
  congr 1
  simp only [Nat.cast_lt, Fin.lt_def]

/-- A comparison of the count is 1 exactly when the point comes before. -/
theorem bit_eq (D : Fin 4096 → EReal) (j i : Fin 4096) : bit D j i = if Before D j i then 1 else 0 := by
  unfold bit
  rw [slt_small]
  have : IntOp.ori (BitVec.ofBool (decide (D j < D i))) (IntOp.andi (BitVec.ofBool (decide (D j = D i))) (BitVec.ofBool (decide (j < i))))
      = BitVec.ofBool (decide (Before D j i)) := by
    unfold Before
    by_cases h1 : D j < D i <;> by_cases h2 : D j = D i <;> by_cases h3 : j < i <;> simp [h1, h2, h3] <;> rfl
  rw [this, bool_word]
  simp

/-- The selection at a count that is a rank. -/
theorem hot_eq (D : Fin 4096 → EReal) (x : Fin 4096) (k : Nat) (hk : k < 32) (n : Fin 128) :
    hot ((rank D x : ℝ) : EReal) k n = if x = pick D ⟨128 * k + n.val, by omega⟩ then 1 else 0 := by
  unfold hot
  rw [bool_word]
  have hw : IntOp.addi (BitVec.ofNat 32 n.val) (Scalar.muli (Scf.iv 0#32 1#32 k) 128#32) = BitVec.ofNat 32 (128 * k + n.val) := by
    show BitVec.ofNat 32 n.val + (0#32 + BitVec.ofNat 32 k * 1#32) * 128#32 = _
    apply BitVec.eq_of_toNat_eq
    simp only [BitVec.toNat_add, BitVec.toNat_mul, BitVec.toNat_ofNat]
    omega
  rw [hw]
  have : FloatOps.sitofp (F := Ideal) FTy.f32 (BitVec.ofNat 32 (128 * k + n.val)) = (((128 * k + n.val : Nat) : ℝ) : EReal) := by
    show ((((BitVec.ofNat 32 (128 * k + n.val)).toInt : ℝ)) : EReal) = _
    rw [toInt_small _ (by omega)]
    simp
  rw [this]
  have h : (((rank D x : ℝ) : EReal) = (((128 * k + n.val : Nat) : ℝ) : EReal)) ↔ x = pick D ⟨128 * k + n.val, by omega⟩ := by
    rw [← rank_eq_iff, EReal.coe_eq_coe_iff, Nat.cast_inj]
  simp only [h, decide_eq_true_eq]

/-- A sum over the points is the sum over the eight blocks. -/
theorem sum_blocks (f : Fin 4096 → EReal) :
    (∑ x : Fin 512, f ⟨0 + x.val, by omega⟩) + (∑ x : Fin 512, f ⟨512 + x.val, by omega⟩)
      + (∑ x : Fin 512, f ⟨1024 + x.val, by omega⟩) + (∑ x : Fin 512, f ⟨1536 + x.val, by omega⟩)
      + (∑ x : Fin 512, f ⟨2048 + x.val, by omega⟩) + (∑ x : Fin 512, f ⟨2560 + x.val, by omega⟩)
      + (∑ x : Fin 512, f ⟨3072 + x.val, by omega⟩) + (∑ x : Fin 512, f ⟨3584 + x.val, by omega⟩) = ∑ j, f j := by
  rw [← (finProdFinEquiv (m := 8) (n := 512)).sum_comp f, Fintype.sum_prod_type]
  simp only [Fin.sum_univ_eight]
  have e : ∀ (b : Fin 8) (o : Nat) (ho : o = 512 * b.val), (∑ x : Fin 512, f ⟨o + x.val, by have := b.isLt; omega⟩)
      = ∑ x : Fin 512, f (finProdFinEquiv (b, x)) := fun b o ho =>
    Finset.sum_congr rfl fun x _ => congrArg f (Fin.ext (by
      show o + x.val = x.val + 512 * b.val
      omega))
  rw [← e 0 0 rfl, ← e 1 512 rfl, ← e 2 1024 rfl, ← e 3 1536 rfl, ← e 4 2048 rfl, ← e 5 2560 rfl, ← e 6 3072 rfl, ← e 7 3584 rfl]

/-- The eight blocks together count the rank. -/
theorem blk_sum (D : Fin 4096 → EReal) (i : Fin 4096) :
    blk D 0 (by omega) i + blk D 512 (by omega) i + blk D 1024 (by omega) i + blk D 1536 (by omega) i
        + blk D 2048 (by omega) i + blk D 2560 (by omega) i + blk D 3072 (by omega) i + blk D 3584 (by omega) i
      = ((rank D i : ℝ) : EReal) := by
  rw [← sum_before, ← sum_blocks]
  simp only [blk, bit_eq]

variable (D : Fin 4096 → EReal)

section first
variable (v0 : Vec Ideal S1x4096 .f32) (v2 : Vec Ideal S4096x1 .f32)
  (h0 : ∀ j, v0 (ix2 0 j) = D j) (h2 : ∀ i, v2 (ix2 i 0) = D i)
include h0 h2

/-- Block 0 of the column of counts. -/
theorem pay5_apply (i : Fin 4096) : k1_pay5 v0 v2 (ix2 i 0) = blk D 0 (by omega) i := by
  pointwise [k1_pay5, k1_pay3, k1_pay4]
  simp only [h0, h2]
  first | (simp only [blk, bit, Nat.zero_add]; done) | (simp only [blk, bit, Nat.zero_add]; rfl)

/-- Block 0 of the row of counts. -/
theorem pay6_apply (i : Fin 4096) : k1_pay6 v0 v2 (ix2 0 i) = blk D 0 (by omega) i := by
  pointwise [k1_pay6, k1_pay3, k1_pay4]
  simp only [h0, h2]
  first | (simp only [blk, bit, Nat.zero_add]; done) | (simp only [blk, bit, Nat.zero_add]; rfl)

/-- Blocks 1 and 2 of the column of counts. -/
theorem pay12_apply (v1 : FVec Ideal S1x4096 .f32) (v3 : FVec Ideal S4096x1 .f32) (v4 : IVec S1x4096 32)
    (v5 : IVec S4096x1 32) (h1 : ∀ j, v1 (ix2 0 j) = D j) (h3 : ∀ i, v3 (ix2 i 0) = D i)
    (h4 : ∀ j, v4 (ix2 0 j) = BitVec.ofNat 32 j.val) (h5 : ∀ i, v5 (ix2 i 0) = BitVec.ofNat 32 i.val)
    (v25 : FVec Ideal S4096x1 .f32) (i : Fin 4096) :
    k1_pay12 v1 v3 v4 v5 v25 k1_pay8 (k1_pay9 v0 v2) (k1_pay10 v0 v2) (ix2 i 0)
      = v25 (ix2 i 0) + blk D 512 (by omega) i + blk D 1024 (by omega) i := by
  pointwise [k1_pay12, k1_pay8, k1_pay9, k1_pay10, k1_pay7, k1_pay3, k1_pay4]
  simp only [h0, h2, h1, h3, h4, h5]
  first | (simp only [blk, bit, Nat.zero_add]; done) | (simp only [blk, bit, Nat.zero_add]; rfl)
end first

section rest
variable (v1 : FVec Ideal S1x4096 .f32) (v3 : FVec Ideal S4096x1 .f32) (v4 : IVec S1x4096 32)
    (v5 : IVec S4096x1 32) (h1 : ∀ j, v1 (ix2 0 j) = D j) (h3 : ∀ i, v3 (ix2 i 0) = D i)
    (h4 : ∀ j, v4 (ix2 0 j) = BitVec.ofNat 32 j.val) (h5 : ∀ i, v5 (ix2 i 0) = BitVec.ofNat 32 i.val)
include h1 h3 h4 h5

/-- Block 3 of the column of counts. -/
theorem pay17_apply (v : FVec Ideal S4096x1 .f32) (i : Fin 4096) : k1_pay17 v1 v3 v4 v5 v (ix2 i 0) = v (ix2 i 0) + blk D 1536 (by omega) i := by
  pointwise [k1_pay17]
  simp only [h1, h3, h4, h5]
  first | (simp only [blk, bit, Nat.zero_add]; done) | (simp only [blk, bit, Nat.zero_add]; rfl)

/-- Blocks 4 and 5 of the column of counts. -/
theorem pay21_apply (v : FVec Ideal S4096x1 .f32) (i : Fin 4096) : k1_pay21 v1 v3 v4 v5 v (k1_pay19 v1 v3 v4 v5) (ix2 i 0) = v (ix2 i 0) + blk D 2048 (by omega) i + blk D 2560 (by omega) i := by
  pointwise [k1_pay21, k1_pay19]
  simp only [h1, h3, h4, h5]
  first | (simp only [blk, bit, Nat.zero_add]; done) | (simp only [blk, bit, Nat.zero_add]; rfl)

/-- Blocks 6 and 7 of the column of counts. -/
theorem pay24_apply (v : FVec Ideal S4096x1 .f32) (i : Fin 4096) : k1_pay24 v1 v3 v4 v5 v (ix2 i 0) = v (ix2 i 0) + blk D 3072 (by omega) i + blk D 3584 (by omega) i := by
  pointwise [k1_pay24]
  simp only [h1, h3, h4, h5]
  first | (simp only [blk, bit, Nat.zero_add]; done) | (simp only [blk, bit, Nat.zero_add]; rfl)

/-- Block 1 of the row of counts. -/
theorem pay11_apply (v : FVec Ideal S1x4096 .f32) (i : Fin 4096) : k1_pay11 v1 v3 v4 v5 v (ix2 0 i) = v (ix2 0 i) + blk D 512 (by omega) i := by
  pointwise [k1_pay11]
  simp only [h1, h3, h4, h5]
  first | (simp only [blk, bit, Nat.zero_add]; done) | (simp only [blk, bit, Nat.zero_add]; rfl)

/-- Blocks 2 and 3 of the row of counts. -/
theorem pay18r_apply (v : FVec Ideal S1x4096 .f32) (i : Fin 4096) : k1_pay18 v1 v3 v4 v5 v (k1_pay14 v1 v3) (k1_pay15 v1 v3) (k1_pay16 v4 v5) (ix2 0 i) = v (ix2 0 i) + blk D 1024 (by omega) i + blk D 1536 (by omega) i := by
  pointwise [k1_pay18, k1_pay14, k1_pay15, k1_pay16, k1_pay13]
  simp only [h1, h3, h4, h5]
  first | (simp only [blk, bit, Nat.zero_add]; done) | (simp only [blk, bit, Nat.zero_add]; rfl)

/-- Block 4 of the row of counts. -/
theorem pay20_apply (v : FVec Ideal S1x4096 .f32) (i : Fin 4096) : k1_pay20 v1 v3 v4 v5 v (ix2 0 i) = v (ix2 0 i) + blk D 2048 (by omega) i := by
  pointwise [k1_pay20]
  simp only [h1, h3, h4, h5]
  first | (simp only [blk, bit, Nat.zero_add]; done) | (simp only [blk, bit, Nat.zero_add]; rfl)

/-- Blocks 5 and 6 of the row of counts. -/
theorem pay23_apply (v : FVec Ideal S1x4096 .f32) (i : Fin 4096) : k1_pay23 v1 v3 v4 v5 v (k1_pay22 v1 v3 v4 v5) (ix2 0 i) = v (ix2 0 i) + blk D 2560 (by omega) i + blk D 3072 (by omega) i := by
  pointwise [k1_pay23, k1_pay22]
  simp only [h1, h3, h4, h5]
  first | (simp only [blk, bit, Nat.zero_add]; done) | (simp only [blk, bit, Nat.zero_add]; rfl)

/-- An entry of the block of sorted features, depths and ones: three sums over all the points. -/
theorem pay2_apply (v : FVec Ideal S1x4096 .f32) (v300 : Vec Ideal S4096x3 .f32) (f : Fin 4096 → Fin 3 → EReal)
    (h6 : ∀ i k, v300 (ix2 i k) = f i k) (k : Fin k1_t1_loop.trips) (n : Fin 128) (q : Fin 8) :
    k1_pay2 v1 v3 v4 v5 v (k1_pay25 v3) v300 k (ix2 n q) =
      (∑ x : Fin 4096, hot (v (ix2 0 x) + blk D 3584 (by omega) x) k.val n * colOf D f x q)
      + (∑ x : Fin 4096, hot (v (ix2 0 x) + blk D 3584 (by omega) x) k.val n * (colOf D f x q - colOf D f x q))
      + ∑ x : Fin 4096, hot (v (ix2 0 x) + blk D 3584 (by omega) x) k.val n
          * ((colOf D f x q - colOf D f x q) - (colOf D f x q - colOf D f x q)) := by
  pointwise [k1_pay2, k1_pay25]
  simp only [h1, h3, h4, h5, h6]
  have hq : ∀ (x : Fin 4096) (h : q.val - 3 < 1), v3 (ix2 x ⟨q.val - 3, h⟩) = D x := fun x h => by
    rw [← h3]; exact congrArg (fun a => v3 (ix2 x a)) (Fin.ext (by show q.val - 3 = 0; omega))
  simp only [hot, colOf, blk, bit, hq, dite_eq_ite]
  rfl

/-- The payload of ranks as a column adds up all eight blocks. -/
theorem col_chain (v0 : Vec Ideal S1x4096 .f32) (v2 : Vec Ideal S4096x1 .f32)
    (h0 : ∀ j, v0 (ix2 0 j) = D j) (h2 : ∀ i, v2 (ix2 i 0) = D i) (i : Fin 4096) :
    k1_pay24 v1 v3 v4 v5 (k1_pay21 v1 v3 v4 v5 (k1_pay17 v1 v3 v4 v5
        (k1_pay12 v1 v3 v4 v5 (k1_pay5 v0 v2) k1_pay8 (k1_pay9 v0 v2) (k1_pay10 v0 v2)))
        (k1_pay19 v1 v3 v4 v5)) (ix2 i 0)
      = blk D 0 (by omega) i + blk D 512 (by omega) i + blk D 1024 (by omega) i + blk D 1536 (by omega) i
        + blk D 2048 (by omega) i + blk D 2560 (by omega) i + blk D 3072 (by omega) i + blk D 3584 (by omega) i := by
  rw [pay24_apply D v1 v3 v4 v5 h1 h3 h4 h5, pay21_apply D v1 v3 v4 v5 h1 h3 h4 h5, pay17_apply D v1 v3 v4 v5 h1 h3 h4 h5,
    pay12_apply D v0 v2 h0 h2 v1 v3 v4 v5 h1 h3 h4 h5, pay5_apply D v0 v2 h0 h2]

/-- The payload of ranks as a row adds up the first seven blocks. -/
theorem row_chain (v0 : Vec Ideal S1x4096 .f32) (v2 : Vec Ideal S4096x1 .f32)
    (h0 : ∀ j, v0 (ix2 0 j) = D j) (h2 : ∀ i, v2 (ix2 i 0) = D i) (i : Fin 4096) :
    k1_pay23 v1 v3 v4 v5 (k1_pay20 v1 v3 v4 v5 (k1_pay18 v1 v3 v4 v5
        (k1_pay11 v1 v3 v4 v5 (k1_pay6 v0 v2)) (k1_pay14 v1 v3) (k1_pay15 v1 v3) (k1_pay16 v4 v5)))
        (k1_pay22 v1 v3 v4 v5) (ix2 0 i)
      = blk D 0 (by omega) i + blk D 512 (by omega) i + blk D 1024 (by omega) i + blk D 1536 (by omega) i
        + blk D 2048 (by omega) i + blk D 2560 (by omega) i + blk D 3072 (by omega) i := by
  rw [pay23_apply D v1 v3 v4 v5 h1 h3 h4 h5, pay20_apply D v1 v3 v4 v5 h1 h3 h4 h5, pay18r_apply D v1 v3 v4 v5 h1 h3 h4 h5,
    pay11_apply D v1 v3 v4 v5 h1 h3 h4 h5, pay6_apply D v0 v2 h0 h2]

end rest

end Cert.KernelIdeal.Value

end
-- ==== Proof.KSort.lean ====
/- What the sorting kernel function leaves: the points' rows and columns in drawing order. -/
module

public import proofs.«01_k».proof.Proof.KRank

@[expose] public section

noncomputable section

namespace Cert.KernelIdeal.Value

open Idealize.ShloMosaic Idealize.ShloMosaic.TcCoe Idealize.SL.Sem
open Cert.KernelIdeal Cert.KernelIdeal.Gen Cert.Splat

set_option maxRecDepth 16384
set_option maxHeartbeats 2000000

section pieces
variable (𝒱 : Variants) (c : Dev nD) (bd : Option 𝒱.V) (a0 : Memref sig .tc .vmem S9x4096 .f32) (h0 : a0.IsWhole)
    (a1 : Memref sig .tc .vmem S4096x1 .f32) (h1 : a1.IsWhole) (a2 : Memref sig .tc .vmem S4096x3 .f32) (h2 : a2.IsWhole)
    (a3 : Memref sig .tc .vmem S8x4096 .f32) (h3 : a3.IsWhole) (a4 : Memref sig .tc .vmem S4096x8 .f32) (h4 : a4.IsWhole)
    (v1 : FVec Ideal S1x4096 .f32) (v3 : FVec Ideal S4096x1 .f32) (v4 : IVec S1x4096 32)
    (v5 : IVec S4096x1 32) (v259 : FVec Ideal S1x4096 .f32) (v277 : FVec Ideal S4096x1 .f32)
    (v278 : FVec Ideal S512x1 .f32) (v296 : Vec Ideal S8x4096 .f32) (v300 : Vec Ideal S4096x3 .f32)

/-- Every piece the loop writes is the block of some trip. -/
theorem pb_pieces (n : Nat) :
    (∀ p ∈ (pb_k1_t1 (F := Ideal) 𝒱 c bd a0 h0 a1 h1 a2 h2 a3 h3 a4 h4 v1 v3 v4 v5 v259 v277 v278 v296 v300 n).1,
      ∃ k : Fin k1_t1_loop.trips, p = ⟨Rect.unit (s := S8x4096) (k1_off1 k) S8x128.size (k1_off1_inb k), k1_pay1 v277 v296 k⟩)
    ∧ (∀ p ∈ (pb_k1_t1 (F := Ideal) 𝒱 c bd a0 h0 a1 h1 a2 h2 a3 h3 a4 h4 v1 v3 v4 v5 v259 v277 v278 v296 v300 n).2,
      ∃ k : Fin k1_t1_loop.trips, p = ⟨Rect.unit (s := S4096x8) (k1_off2 k) S128x8.size (k1_off2_inb k),
        k1_pay2 v1 v3 v4 v5 v259 v278 v300 k⟩) := by
  induction n with
  | zero =>
    rw [pb_k1_t1.eq_1]
    exact ⟨fun p hp => absurd hp List.not_mem_nil, fun p hp => absurd hp List.not_mem_nil⟩
  | succ n ih =>
    by_cases h : n < k1_t1_loop.trips
    · rw [pb_k1_t1_succ (F := Ideal) 𝒱 c bd a0 h0 a1 h1 a2 h2 a3 h3 a4 h4 v1 v3 v4 v5 v259 v277 v278 v296 v300 ⟨n, h⟩]
      constructor
      · intro p hp
        rcases List.mem_append.mp hp with hp | hp
        · refine ⟨⟨n, h⟩, ?_⟩
          unfold tripL_k1_t1 trip_k1_t1 at hp
          exact List.mem_singleton.mp hp
        · exact ih.1 p hp
      · intro p hp
        rcases List.mem_append.mp hp with hp | hp
        · refine ⟨⟨n, h⟩, ?_⟩
          unfold tripL_k1_t1 trip_k1_t1 at hp
          exact List.mem_singleton.mp hp
        · exact ih.2 p hp
    · rw [pb_k1_t1.eq_2]; unfold pb_k1_t1Step; rw [dif_neg h]
      exact ih
end pieces

/-- A block of 128 columns of the wide table lies at its trip's columns. -/
theorem emb1 (k : Fin k1_t1_loop.trips) (hk : k.val < 32) (r : Fin 8) (n : Fin 128) :
    (Rect.unit (s := S8x4096) (k1_off1 k) S8x128.size (k1_off1_inb k)).emb (ix2 r n)
      = ix2 r ⟨128 * k.val + n.val, by omega⟩ := by
  funext a
  apply Fin.ext
  show k1_off1 k a + 1 * (ix2 r n a).val = _
  rw [one_mul]
  rw [k1_off1_eq]
  match a with
  | ⟨0, _⟩ => show 0 + r.val = r.val; omega
  | ⟨1, _⟩ => rfl

/-- A block of 128 rows of the tall table lies at its trip's rows. -/
theorem emb2 (k : Fin k1_t1_loop.trips) (hk : k.val < 32) (q : Fin 8) (n : Fin 128) :
    (Rect.unit (s := S4096x8) (k1_off2 k) S128x8.size (k1_off2_inb k)).emb (ix2 n q)
      = ix2 ⟨128 * k.val + n.val, by omega⟩ q := by
  funext a
  apply Fin.ext
  show k1_off2 k a + 1 * (ix2 n q a).val = _
  rw [one_mul]
  rw [k1_off2_eq]
  match a with
  | ⟨0, _⟩ => rfl
  | ⟨1, _⟩ => show 0 + q.val = q.val; omega

/-- The sorting loop makes 32 turns. -/
theorem trips_lt (k : Fin k1_t1_loop.trips) : k.val < 32 := Nat.lt_of_lt_of_le k.isLt k1_t1_abs.2.1

section result
variable (c : Dev nD) (a0 : Memref sig .tc .vmem S9x4096 .f32) (h0 : a0.IsWhole)
    (a1 : Memref sig .tc .vmem S4096x1 .f32) (h1 : a1.IsWhole) (a2 : Memref sig .tc .vmem S4096x3 .f32) (h2 : a2.IsWhole)
    (a3 : Memref sig .tc .vmem S8x4096 .f32) (h3 : a3.IsWhole) (a4 : Memref sig .tc .vmem S4096x8 .f32) (h4 : a4.IsWhole)
    (x0 : Vec Ideal S9x4096 .f32) (x1 : Vec Ideal S4096x1 .f32) (x2 : Vec Ideal S4096x3 .f32)
    (R : Fin 9 → Fin 4096 → EReal) (f : Fin 4096 → Fin 3 → EReal)
    (hx0 : ∀ r i, x0 (ix2 r i) = R r i) (hx1 : ∀ i, x1 (ix2 i 0) = R 8 i) (hx2 : ∀ i k, x2 (ix2 i k) = f i k)

/-- The row of point numbers. -/
theorem iota_row (j : Fin 4096) : iota Kind.tc S1x4096 32 [1] iota_S1x4096_d1_w32 (ix2 0 j) = BitVec.ofNat 32 j.val := by
  pointwise
/-- The column of point numbers. -/
theorem iota_col (j : Fin 4096) : iota Kind.tc S4096x1 32 [0] iota_S4096x1_d0_w32 (ix2 j 0) = BitVec.ofNat 32 j.val := by
  pointwise

include hx0 in
theorem ld_depth (j : Fin 4096) : View.ld x0 (Rect.unit ![8, 0] S1x4096.size inb_S9x4096_S1x4096_8_0) (ix2 0 j) = R 8 j := by
  pointwise
  exact hx0 8 j
include hx0 in
theorem pay3_depth (j : Fin 4096) : k1_pay3 (View.ld x0 (Rect.unit ![8, 0] S1x4096.size inb_S9x4096_S1x4096_8_0)) (ix2 0 j) = R 8 j := by
  pointwise [k1_pay3]
  exact hx0 8 j
include hx0 in
theorem ld_rows (r : Fin 8) (j : Fin 4096) :
    View.ld x0 (Rect.unit ![0, 0] S8x4096.size inb_S9x4096_S8x4096_0_0) (ix2 r j) = R r.castSucc j := by
  pointwise
  exact hx0 r.castSucc j
include hx1 in
theorem ld_col (j : Fin 4096) : View.ld x1 (Rect.unit ![0, 0] S4096x1.size inb_S4096x1_S4096x1_0_0) (ix2 j 0) = R 8 j := by
  pointwise
  exact hx1 j
include hx1 in
theorem pay4_depth (j : Fin 4096) : k1_pay4 (View.ld x1 (Rect.unit ![0, 0] S4096x1.size inb_S4096x1_S4096x1_0_0)) (ix2 j 0) = R 8 j := by
  pointwise [k1_pay4]
  exact hx1 j
include hx2 in
theorem ld_feat (j : Fin 4096) (k : Fin 3) : View.ld x2 (Rect.unit ![0, 0] S4096x3.size inb_S4096x3_S4096x3_0_0) (ix2 j k) = f j k := by
  pointwise
  exact hx2 j k

include hx0 hx1

/-- The wide table holds the points' first eight rows in drawing order. -/
theorem sort_rows (r : Fin 8) (n : Fin 4096) :
    out1_A_3 (F := Ideal) c a0 h0 a1 h1 a2 h2 a3 h3 a4 h4 x0 x1 x2 (ix2 r n) = again (R r.castSucc (pick (R 8) n)) := by
  unfold out1_A_3
  have hcov := cover1_A_3 c a0 h0 a1 h1 a2 h2 a3 h3 a4 h4 x0 x1 x2 (ix2 r n)
  rw [View.read_writes_eq_canon _ _ _ (cover1_A_3 c a0 h0 a1 h1 a2 h2 a3 h3 a4 h4 x0 x1 x2)]
  refine (View.canon_apply_of_pieces (fun y => again (R (Fin.castSucc (y 0)) (pick (R 8) (y 1)))) _ ?_ _ hcov).trans rfl
  unfold kernelRun1_A
  dsimp only
  sl_unfold_words
  simp only [View.readAt_eq_ld, h0.read_unread, h1.read_unread, h2.read_unread]
  intro p hp x
  obtain ⟨k, rfl⟩ := (pb_pieces _ _ _ _ _ _ _ _ _ _ _ _ _ _ _ _ _ _ _ _ _ _ _).1 p hp
  have hk := trips_lt k
  obtain ⟨r, n, rfl⟩ : ∃ (r : Fin 8) (n : Fin 128), x = ix2 r n := ⟨x 0, x 1, by funext a; match a with | ⟨0, _⟩ => rfl | ⟨1, _⟩ => rfl⟩
  dsimp only
  rw [emb1 k hk]
  have hcol := fun i => (col_chain (R 8) _ _ _ _ (pay3_depth x0 R hx0) (pay4_depth x1 R hx1) iota_row iota_col _ _
    (ld_depth x0 R hx0) (ld_col x1 R hx1) i).trans (blk_sum (R 8) i)
  refine (pay1_apply _ _ k r n).trans ?_
  have hs := fun g => sum_select g _ (pick (R 8) ⟨128 * k.val + n.val, by omega⟩)
    (fun x => (congrArg (fun a => hot a k.val n) (hcol x)).trans (hot_eq (R 8) x k.val hk n))
  refine (congrArg₂ (· + ·) (congrArg₂ (· + ·) (hs _) (hs _)) (hs _)).trans ?_
  simp only [ld_rows x0 R hx0]
  rfl

include hx2

/-- The tall table holds the points' features, depths and ones in drawing order. -/
theorem sort_cols (n : Fin 4096) (q : Fin 8) :
    out1_A_4 (F := Ideal) c a0 h0 a1 h1 a2 h2 a3 h3 a4 h4 x0 x1 x2 (ix2 n q) = again (colOf (R 8) f (pick (R 8) n) q) := by
  unfold out1_A_4
  have hcov := cover1_A_4 c a0 h0 a1 h1 a2 h2 a3 h3 a4 h4 x0 x1 x2 (ix2 n q)
  rw [View.read_writes_eq_canon _ _ _ (cover1_A_4 c a0 h0 a1 h1 a2 h2 a3 h3 a4 h4 x0 x1 x2)]
  refine (View.canon_apply_of_pieces (fun y => again (colOf (R 8) f (pick (R 8) (y 0)) (y 1))) _ ?_ _ hcov).trans rfl
  unfold kernelRun1_A
  dsimp only
  sl_unfold_words
  simp only [View.readAt_eq_ld, h0.read_unread, h1.read_unread, h2.read_unread]
  intro p hp x
  obtain ⟨k, rfl⟩ := (pb_pieces _ _ _ _ _ _ _ _ _ _ _ _ _ _ _ _ _ _ _ _ _ _ _).2 p hp
  have hk := trips_lt k
  obtain ⟨n, q, rfl⟩ : ∃ (n : Fin 128) (q : Fin 8), x = ix2 n q := ⟨x 0, x 1, by funext a; match a with | ⟨0, _⟩ => rfl | ⟨1, _⟩ => rfl⟩
  dsimp only
  rw [emb2 k hk]
  have hrow := fun i => (congrArg (· + blk (R 8) 3584 (by omega) i) (row_chain (R 8) _ _ _ _ (pay3_depth x0 R hx0) (pay4_depth x1 R hx1) iota_row iota_col _ _
    (ld_depth x0 R hx0) (ld_col x1 R hx1) i)).trans (blk_sum (R 8) i)
  refine (pay2_apply (R 8) _ _ _ _ (pay3_depth x0 R hx0) (pay4_depth x1 R hx1) iota_row iota_col _ _ f
    (ld_feat x2 f hx2) k n q).trans ?_
  have hs := fun g => sum_select' g _ (pick (R 8) ⟨128 * k.val + n.val, by omega⟩)
    (fun x => (congrArg (fun a => hot a k.val n) (hrow x)).trans (hot_eq (R 8) x k.val hk n))
  refine (congrArg₂ (· + ·) (congrArg₂ (· + ·) (hs _) (hs _)) (hs _)).trans ?_
  rfl

end result

end Cert.KernelIdeal.Value

end
-- ==== Proof.Draw.lean ====
/- Drawing from front to back: the opacity of a point at a pixel, how much light is left behind the first points, and
   what they add up to. -/
module

public import proofs.«01_k».proof.Proof.Math

@[expose] public section

noncomputable section

namespace Cert.Splat

open Idealize.ShloMosaic

/-- A whole number as an extended real. -/
def num (n : Nat) : EReal := ((n : ℝ) : EReal)

/-- The left column and the top row of tile `t`. -/
def tileX (t : Nat) : EReal := num (64 * (t % 4))
/-- The top row of tile `t`. -/
def tileY (t : Nat) : EReal := num (64 * (t / 4))

/-- The column and the row of pixel `p` of tile `t`. -/
def pixX (t p : Nat) : EReal := tileX t + num (p % 64)
/-- The row of pixel `p` of tile `t`. -/
def pixY (t p : Nat) : EReal := tileY t + num (p / 64)

/-- The point with the eight rows `r` reaches into the tile whose corner is `(u, v)`. -/
def Seen (u v : EReal) (r : Fin 8 → EReal) : Prop :=
  max (r 4) u < min (r 6) (u + cTile) ∧ max (r 5) v < min (r 7) (v + cTile)

/-- Whether a point reaches into a tile can be decided. -/
instance (u v : EReal) (r : Fin 8 → EReal) : Decidable (Seen u v r) := Classical.propDecidable _

/-- The opacity of the point with the eight rows `r` at the pixel `(x, y)` of the tile whose corner is `(u, v)`. -/
def alphaOf (u v x y : EReal) (r : Fin 8 → EReal) : EReal :=
  min (if Seen u v r then
    Ideal.exp (((x - r 0) * (x - r 0) + (y - r 1) * (y - r 1)) * Ideal.div cNegHalf (r 2)) * r 3 else 0) cMost

/-- The light left behind the first `n` points of opacities `a`. -/
def trans (a : Nat → EReal) (n : Nat) : EReal := ∏ m ∈ Finset.range n, (1 - a m)

/-- What the first `n` points of opacities `a` and values `g` add up to. -/
def paint (a g : Nat → EReal) (n : Nat) : EReal := ∑ m ∈ Finset.range n, trans a m * a m * g m

/-- Before any point all the light is left. -/
theorem trans_zero (a : Nat → EReal) : trans a 0 = 1 := rfl
/-- No points add up to nothing. -/
theorem paint_zero (a g : Nat → EReal) : paint a g 0 = 0 := rfl
/-- One more point lets through its share of the light. -/
theorem trans_succ (a : Nat → EReal) (n : Nat) : trans a (n + 1) = trans a n * (1 - a n) := Finset.prod_range_succ _ _
/-- One more point adds its value, weighted by the light left and its opacity. -/
theorem paint_succ (a g : Nat → EReal) (n : Nat) : paint a g (n + 1) = paint a g n + trans a n * a n * g n :=
  Finset.sum_range_succ _ _

/-- The light left behind `n + k` points is that behind the first `n` times that behind the next `k`. -/
theorem trans_add (a : Nat → EReal) (n k : Nat) : trans a (n + k) = trans a n * trans (fun m => a (n + m)) k :=
  Finset.prod_range_add _ _ _

/-- The sum over `n + k` points is the sum over the first `n` and the next `k`, these weighted by the light the first left. -/
theorem paint_add (a g : Nat → EReal) (n k : Nat) :
    paint a g (n + k) = paint a g n + ∑ m ∈ Finset.range k, trans a n * trans (fun m => a (n + m)) m * a (n + m) * g (n + m) := by
  unfold paint
  rw [Finset.sum_range_add]
  simp only [trans_add]

/-- The product of the last `w` values up to place `l`. -/
def win (x : Nat → EReal) (w l : Nat) : EReal := ∏ m ∈ Finset.range (min w (l + 1)), x (l - m)

/-- A window times the window before it is the window of twice the width. -/
theorem win_step (x : Nat → EReal) (w l : Nat) :
    (win x w l * if l < w then 1 else win x w (l - w)) = win x (w + w) l := by
  unfold win
  by_cases h : l < w
  · rw [if_pos h, mul_one, Nat.min_eq_right (by omega), Nat.min_eq_right (by omega)]
  · rw [if_neg h, Nat.min_eq_left (by omega), show min (w + w) (l + 1) = w + min w (l - w + 1) by omega,
      Finset.prod_range_add]
    refine congrArg _ (Finset.prod_congr rfl fun m _ => congrArg x (by omega))

/-- A window of width one is its value. -/
theorem win_one (x : Nat → EReal) (l : Nat) : win x 1 l = x l := by
  unfold win
  rw [Nat.min_eq_left (by omega)]
  simp

/-- A window as wide as the block is the light left up to its place. -/
theorem win_all (a : Nat → EReal) (w l : Nat) (h : l < w) : win (fun m => 1 - a m) w l = trans a (l + 1) := by
  unfold win trans
  rw [Nat.min_eq_right (by omega), ← Finset.prod_range_reflect]
  refine Finset.prod_congr rfl fun m hm => ?_
  have hm' : m < l + 1 := Finset.mem_range.mp hm
  simp only [show l - (l + 1 - 1 - m) = m by omega]

/-- A choice on two conditions, as the kernels spell it. -/
theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq] <;> rfl

end Cert.Splat

end
-- ==== Proof.KRender.lean ====
/- What the rendering kernel function leaves in a tile: at every pixel, the points painted in the order of their rows. -/
module

public import proofs.«01_k».proof.Proof.Draw
public import proofs.«01_k».proof.Proof.KProj

@[expose] public section

noncomputable section

namespace Cert.KernelIdeal.Value

open Idealize.ShloMosaic Idealize.ShloMosaic.TcCoe Idealize.SL.Sem
open Cert.KernelIdeal Cert.KernelIdeal.Gen Cert.Splat

set_option maxRecDepth 16384
set_option maxHeartbeats 2000000

/-- The word of a small number as an extended real is that number. -/
theorem sitofp_num (w : BitVec 32) (n : Nat) (h : w = BitVec.ofNat 32 n) (hn : n < 8192) :
    FloatOps.sitofp (F := Ideal) FTy.f32 w = num n := by
  subst h
  show ((((BitVec.ofNat 32 n).toInt : ℝ)) : EReal) = _
  rw [BitVec.toInt_eq_toNat_of_lt (by simp only [BitVec.toNat_ofNat]; omega), BitVec.toNat_ofNat, Nat.mod_eq_of_lt (by omega)]
  rfl

/-- The corner of a tile: its left column. -/
theorem pay5_eq (i : grid2.Coords) : k2_pay5 (F := Ideal) i = tileX (i 0).val := by
  unfold k2_pay5 tileX
  dsimp only
  refine sitofp_num _ _ ?_ (by omega)
  generalize hn : (i 0).val = n
  have h : n < 16 := hn ▸ (i 0).isLt
  clear hn
  interval_cases n <;> decide +kernel

/-- The corner of a tile: its top row. -/
theorem pay6_eq (i : grid2.Coords) : k2_pay6 (F := Ideal) i = tileY (i 0).val := by
  have h : (i 0).val < 16 := (i 0).isLt
  unfold k2_pay6 tileY
  dsimp only
  refine sitofp_num _ _ ?_ (by omega)
  generalize hn : (i 0).val = n at h
  clear hn
  interval_cases n <;> decide +kernel

/-- The word of a pixel's column in its tile. -/
theorem wordX : ∀ p : Fin 4096, (Scalar.select
    (IntOp.andi (IntOp.xori (IntOp.cmpi CmpIPredicate.slt (IntOp.remsi ArithUnit.vector (BitVec.ofNat 32 p.val)
        (Scalar.select (Scalar.cmpi CmpIPredicate.eq 64#32 0#32) 1#32 64#32)) 0#32) (Scalar.cmpi CmpIPredicate.slt 64#32 0#32))
      (IntOp.cmpi CmpIPredicate.ne (IntOp.remsi ArithUnit.vector (BitVec.ofNat 32 p.val)
        (Scalar.select (Scalar.cmpi CmpIPredicate.eq 64#32 0#32) 1#32 64#32)) 0#32))
    (IntOp.addi (IntOp.remsi ArithUnit.vector (BitVec.ofNat 32 p.val)
      (Scalar.select (Scalar.cmpi CmpIPredicate.eq 64#32 0#32) 1#32 64#32)) 64#32)
    (IntOp.remsi ArithUnit.vector (BitVec.ofNat 32 p.val)
      (Scalar.select (Scalar.cmpi CmpIPredicate.eq 64#32 0#32) 1#32 64#32))) = BitVec.ofNat 32 (p.val % 64) := by
  decide +kernel

/-- The word of a pixel's row in its tile. -/
theorem wordY : ∀ p : Fin 4096, (Scalar.select
    (IntOp.andi
      (IntOp.cmpi CmpIPredicate.ne
        (IntOp.subi (BitVec.setWidth 32 (IntOp.cmpi CmpIPredicate.sgt (BitVec.ofNat 32 p.val) 0#32))
          (BitVec.setWidth 32 (IntOp.cmpi CmpIPredicate.slt (BitVec.ofNat 32 p.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 p.val) 64#32) 0#32))
    (IntOp.subi (IntOp.divsi ArithUnit.vector (BitVec.ofNat 32 p.val) 64#32) 1#32)
    (IntOp.divsi ArithUnit.vector (BitVec.ofNat 32 p.val) 64#32)) = BitVec.ofNat 32 (p.val / 64) := by
  decide +kernel

/-- The columns of the pixels. -/
theorem pay10_eq (t : Nat) (u : Ideal .f32) (hu : u = tileX t) (p : Fin 4096) :
    k2_pay10 (F := Ideal) u 64#32 k2_pay7 k2_pay8 k2_pay9 (ix2 p 0) = pixX t p.val := by
  pointwise [k2_pay10, k2_pay7, k2_pay8, k2_pay9]
  subst hu
  exact congrArg (tileX t + ·) (sitofp_num _ _ (wordX p) (by omega))

/-- The rows of the pixels. -/
theorem pay11_eq (t : Nat) (v : Ideal .f32) (hv : v = tileY t) (p : Fin 4096) :
    k2_pay11 (F := Ideal) v (iota Kind.tc S4096x1 32 [0] iota_S4096x1_d0_w32) (ix2 p 0) = pixY t p.val := by
  pointwise [k2_pay11]
  subst hv
  exact congrArg (tileY t + ·) (sitofp_num _ _ (wordY p) (by omega))

/-- The opacity of a point at a pixel. -/
theorem pay2_eq (u v : EReal) (v50 v77 : FVec Ideal S4096x1 .f32) (v102 : Vec Ideal S8x128 .f32) (p : Fin 4096) (l : Fin 128) :
    k2_pay2 (F := Ideal) u v v50 v77 v102 (ix2 p l)
      = alphaOf u v (v50 (ix2 p 0)) (v77 (ix2 p 0)) (fun r => v102 (ix2 r l)) := by
  pointwise [k2_pay2]
  rw [select_and]
  exact congrArg (min · cMost) (if_congr Iff.rfl rfl rfl)

section prefix_product
variable (a : Fin 4096 → Nat → EReal)

/-- The first doubling of the prefix product. -/
theorem pay4_eq (u v : EReal) (v50 v77 : FVec Ideal S4096x1 .f32) (v102 : Vec Ideal S8x128 .f32)
    (h : ∀ p (l : Fin 128), k2_pay2 (F := Ideal) u v v50 v77 v102 (ix2 p l) = a p l.val) (p : Fin 4096) (l : Fin 128) :
    mulf (k2_pay3 (F := Ideal) u v v50 v77 v102) (k2_pay4 (F := Ideal) u v v50 v77 v102) (ix2 p l)
      = win (fun m => 1 - a p m) 2 l.val := by
  have h3 : ∀ (l : Fin 128), k2_pay3 (F := Ideal) u v v50 v77 v102 (ix2 p l) = 1 - a p l.val := fun l => by
    rw [← h]; unfold k2_pay3; generalize k2_pay2 (F := Ideal) u v v50 v77 v102 = W; pointwise
  unfold k2_pay4
  generalize k2_pay3 (F := Ideal) u v v50 v77 v102 = W at h3
  pointwise
  simp only [h3]
  rw [← win_step _ 1, win_one, dite_eq_ite, win_one]

/-- Doubling the windows up to the width of the block leaves the light behind each place. -/
theorem pay14_eq (v146 v149 : FVec Ideal S4096x128 .f32)
    (h : ∀ p (l : Fin 128), mulf v146 v149 (ix2 p l) = win (fun m => 1 - a p m) 2 l.val) (p : Fin 4096) (l : Fin 128) :
    k2_pay14 v146 v149 (ix2 p l) = trans (a p) (l.val + 1) := by
  have s2 : ∀ (v : FVec Ideal S4096x128 .f32), (∀ p (l : Fin 128), v (ix2 p l) = win (fun m => 1 - a p m) 2 l.val) → ∀ p (l : Fin 128),
      (mulf v (concatenate S4096x128 1 [⟨S4096x2, broadcast S4096x2 (Scalar.ofBits (F := Ideal) .f32 0x3F800000#32)⟩, ⟨S4096x126, extractStridedSlice S4096x126 ![0, 0] v slices_S4096x128_o0_0_S4096x126⟩] concatenates_S4096x2_S4096x126_S4096x128_d1)) (ix2 p l) = win (fun m => 1 - a p m) 4 l.val := by
    intro v hv p l; pointwise; simp only [hv, dite_eq_ite]; exact win_step _ 2 _
  have s4 : ∀ (v : FVec Ideal S4096x128 .f32), (∀ p (l : Fin 128), v (ix2 p l) = win (fun m => 1 - a p m) 4 l.val) → ∀ p (l : Fin 128),
      (mulf v (concatenate S4096x128 1 [⟨S4096x4, broadcast S4096x4 (Scalar.ofBits (F := Ideal) .f32 0x3F800000#32)⟩, ⟨S4096x124, extractStridedSlice S4096x124 ![0, 0] v slices_S4096x128_o0_0_S4096x124⟩] concatenates_S4096x4_S4096x124_S4096x128_d1)) (ix2 p l) = win (fun m => 1 - a p m) 8 l.val := by
    intro v hv p l; pointwise; simp only [hv, dite_eq_ite]; exact win_step _ 4 _
  have s8 : ∀ (v : FVec Ideal S4096x128 .f32), (∀ p (l : Fin 128), v (ix2 p l) = win (fun m => 1 - a p m) 8 l.val) → ∀ p (l : Fin 128),
      (mulf v (concatenate S4096x128 1 [⟨S4096x8, broadcast S4096x8 (Scalar.ofBits (F := Ideal) .f32 0x3F800000#32)⟩, ⟨S4096x120, extractStridedSlice S4096x120 ![0, 0] v slices_S4096x128_o0_0_S4096x120⟩] concatenates_S4096x8_S4096x120_S4096x128_d1)) (ix2 p l) = win (fun m => 1 - a p m) 16 l.val := by
    intro v hv p l; pointwise; simp only [hv, dite_eq_ite]; exact win_step _ 8 _
  have s16 : ∀ (v : FVec Ideal S4096x128 .f32), (∀ p (l : Fin 128), v (ix2 p l) = win (fun m => 1 - a p m) 16 l.val) → ∀ p (l : Fin 128),
      (mulf v (concatenate S4096x128 1 [⟨S4096x16, broadcast S4096x16 (Scalar.ofBits (F := Ideal) .f32 0x3F800000#32)⟩, ⟨S4096x112, extractStridedSlice S4096x112 ![0, 0] v slices_S4096x128_o0_0_S4096x112⟩] concatenates_S4096x16_S4096x112_S4096x128_d1)) (ix2 p l) = win (fun m => 1 - a p m) 32 l.val := by
    intro v hv p l; pointwise; simp only [hv, dite_eq_ite]; exact win_step _ 16 _
  have s32 : ∀ (v : FVec Ideal S4096x128 .f32), (∀ p (l : Fin 128), v (ix2 p l) = win (fun m => 1 - a p m) 32 l.val) → ∀ p (l : Fin 128),
      (mulf v (concatenate S4096x128 1 [⟨S4096x32, broadcast S4096x32 (Scalar.ofBits (F := Ideal) .f32 0x3F800000#32)⟩, ⟨S4096x96, extractStridedSlice S4096x96 ![0, 0] v slices_S4096x128_o0_0_S4096x96⟩] concatenates_S4096x32_S4096x96_S4096x128_d1)) (ix2 p l) = win (fun m => 1 - a p m) 64 l.val := by
    intro v hv p l; pointwise; simp only [hv, dite_eq_ite]; exact win_step _ 32 _
  have s64 : ∀ (v : FVec Ideal S4096x128 .f32), (∀ p (l : Fin 128), v (ix2 p l) = win (fun m => 1 - a p m) 64 l.val) → ∀ p (l : Fin 128),
      (mulf v (concatenate S4096x128 1 [⟨S4096x64, broadcast S4096x64 (Scalar.ofBits (F := Ideal) .f32 0x3F800000#32)⟩, ⟨S4096x64, extractStridedSlice S4096x64 ![0, 0] v slices_S4096x128_o0_0_S4096x64⟩] concatenates_S4096x64_S4096x64_S4096x128_d1)) (ix2 p l) = win (fun m => 1 - a p m) 128 l.val := by
    intro v hv p l; pointwise; simp only [hv, dite_eq_ite]; exact win_step _ 64 _
  rw [← win_all _ 128 _ l.isLt]
  exact s64 _ (s32 _ (s16 _ (s8 _ (s4 _ (s2 _ h))))) p l

/-- The light left after one more block of 128 points. -/
theorem pay16_eq (arg5 : FVec Ideal S4096x1 .f32) (v146 v149 : FVec Ideal S4096x128 .f32)
    (h : ∀ p (l : Fin 128), mulf v146 v149 (ix2 p l) = win (fun m => 1 - a p m) 2 l.val) (p : Fin 4096) :
    k2_pay16 (F := Ideal) arg5 v146 v149 (ix2 p 0) = arg5 (ix2 p 0) * trans (a p) 128 := by
  have hW := pay14_eq a v146 v149 h p
  unfold k2_pay16
  generalize k2_pay14 (F := Ideal) v146 v149 = W at hW
  pointwise
  rw [hW 127]
  rfl

/-- What one more block of 128 points adds. -/
theorem pay15_eq (arg5 : FVec Ideal S4096x1 .f32) (arg6 : FVec Ideal S4096x8 .f32) (v144 v146 v149 : FVec Ideal S4096x128 .f32)
    (v183 : Vec Ideal S128x8 .f32) (g : Fin 8 → Nat → EReal)
    (h : ∀ p (l : Fin 128), mulf v146 v149 (ix2 p l) = win (fun m => 1 - a p m) 2 l.val)
    (h4 : ∀ p (l : Fin 128), v144 (ix2 p l) = a p l.val) (hg : ∀ (l : Fin 128) q, v183 (ix2 l q) = g q l.val)
    (p : Fin 4096) (q : Fin 8) :
    k2_pay15 (F := Ideal) arg5 arg6 v144 v146 v149 v183 (ix2 p q)
      = arg6 (ix2 p q) + ∑ m ∈ Finset.range 128, arg5 (ix2 p 0) * trans (a p) m * a p m * g q m := by
  have hW := pay14_eq a v146 v149 h p
  unfold k2_pay15
  generalize k2_pay14 (F := Ideal) v146 v149 = W at hW
  pointwise
  simp only [hW, h4, hg]
  rw [Finset.sum_range_succ' _ 127, ← Fin.sum_univ_eq_sum_range (fun m => arg5 (ix2 p 0) * trans (a p) (m + 1) * a p (m + 1) * g q (m + 1)) 127, trans_zero, mul_one]
  rw [add_comm (Finset.sum _ _)]
  simp only [Fin.sum_univ_one, Nat.add_comm 1]
  rfl

end prefix_product

/-- The finished pixel: colour over a white ground, depth, opacity. -/
theorem pay1_eq (W : FVec Ideal S4096x8 .f32) (p : Fin 4096) (q : Fin 8) :
    k2_pay1 (F := Ideal) W (k2_pay17 W) (k2_pay18 W) (FloatOps.ofBits FTy.f32 1065353216#32) (ix3 0 p q)
      = if q.val < 3 then min 1 (max 0 (W (ix2 p q) + (1 - W (ix2 p 4)))) else if q.val < 5 then W (ix2 p q) else 0 := by
  pointwise [k2_pay1, k2_pay17, k2_pay18]
  match q with
  | 0 => rfl
  | 1 => rfl
  | 2 => rfl
  | 3 => rfl
  | 4 => rfl
  | 5 => rfl
  | 6 => rfl
  | 7 => rfl

/-- The drawing loop makes 32 turns. -/
theorem trips2_lt (k : Fin k2_t1_loop.trips) : k.val < 32 := Nat.lt_of_lt_of_le k.isLt k2_t1_abs.2.1

/-- A block of 128 columns of the wide table, read where it lies. -/
theorem ld_block1 (x0 : Vec Ideal S8x4096 .f32) (A : Fin 8 → Nat → EReal) (hA : ∀ r (n : Fin 4096), x0 (ix2 r n) = A r n.val)
    (k : Fin k2_t1_loop.trips) (r : Fin 8) (l : Fin 128) :
    View.ld x0 (Rect.unit (s := S8x4096) (k2_off1 k) S8x128.size (k2_off1_inb k)) (ix2 r l) = A r (128 * k.val + l.val) := by
  have hk := trips2_lt k
  pointwise
  rw [← hA r ⟨128 * k.val + l.val, by omega⟩]
  have h := k2_off1_eq k
  exact congrArg₂ (fun a b => x0 (ix2 a b)) (Fin.ext (by show k2_off1 k 0 + r.val = r.val; rw [h]; exact Nat.zero_add _))
    (Fin.ext (by show k2_off1 k 1 + l.val = 128 * k.val + l.val; rw [h]; rfl))

/-- A block of 128 rows of the tall table, read where it lies. -/
theorem ld_block2 (x1 : Vec Ideal S4096x8 .f32) (B : Fin 8 → Nat → EReal) (hB : ∀ (n : Fin 4096) q, x1 (ix2 n q) = B q n.val)
    (k : Fin k2_t1_loop.trips) (l : Fin 128) (q : Fin 8) :
    View.ld x1 (Rect.unit (s := S4096x8) (k2_off2 k) S128x8.size (k2_off2_inb k)) (ix2 l q) = B q (128 * k.val + l.val) := by
  have hk := trips2_lt k
  pointwise
  rw [← hB ⟨128 * k.val + l.val, by omega⟩ q]
  have h := k2_off2_eq k
  exact congrArg₂ (fun a b => x1 (ix2 a b)) (Fin.ext (by show k2_off2 k 0 + l.val = 128 * k.val + l.val; rw [h]; rfl))
    (Fin.ext (by show k2_off2 k 1 + q.val = q.val; rw [h]; exact Nat.zero_add _))

section tile
variable (c : Dev nD) (i : grid2.Coords) (a1 : Memref sig .tc .vmem S8x4096 .f32) (h1 : a1.IsWhole)
    (a2 : Memref sig .tc .vmem S4096x8 .f32) (h2 : a2.IsWhole) (a3 : Memref sig .tc .vmem S1x4096x8 .f32) (h3 : a3.IsWhole)
    (x0 : Vec Ideal S8x4096 .f32) (x1 : Vec Ideal S4096x8 .f32) (A B : Fin 8 → Nat → EReal)
    (hA : ∀ r (n : Fin 4096), x0 (ix2 r n) = A r n.val) (hB : ∀ (n : Fin 4096) q, x1 (ix2 n q) = B q n.val)

/-- The opacity of the `n`-th point at pixel `p` of tile `t`. -/
def al (A : Fin 8 → Nat → EReal) (t p n : Nat) : EReal :=
  alphaOf (tileX t) (tileY t) (pixX t p) (pixY t p) (fun r => A r n)

include hA hB in
/-- The loop's carried pair after `n` blocks: the light left, and the sums. -/
theorem loop_state (n : Nat) (hn : n ≤ 32) (p : Fin 4096) :
    (st_k2_t1 (F := Ideal) Variants.none c none i a1 h1 a2 h2 a3 h3 (k2_pay5 i) (k2_pay6 i)
      (iota Kind.tc S4096x1 32 [0] iota_S4096x1_d0_w32) (64#32) k2_pay7 k2_pay8 k2_pay9 (h1.unread x0)
      (h2.unread x1) (k2_pay12, k2_pay13) n).1 (ix2 p 0) = trans (al A (i 0).val p.val) (128 * n)
    ∧ ∀ q, (st_k2_t1 (F := Ideal) Variants.none c none i a1 h1 a2 h2 a3 h3 (k2_pay5 i) (k2_pay6 i)
      (iota Kind.tc S4096x1 32 [0] iota_S4096x1_d0_w32) (64#32) k2_pay7 k2_pay8 k2_pay9 (h1.unread x0)
      (h2.unread x1) (k2_pay12, k2_pay13) n).2 (ix2 p q) = paint (al A (i 0).val p.val) (B q) (128 * n) := by
  induction n with
  | zero =>
    rw [st_k2_t1_zero]
    refine ⟨?_, fun q => ?_⟩
    · dsimp only; pointwise [k2_pay12]; rfl
    · dsimp only; pointwise [k2_pay13]; rfl
  | succ n ih =>
    have hT : n < k2_t1_loop.trips := by
      have : k2_t1_loop.trips = 32 := by decide +kernel
      omega
    obtain ⟨ih1, ih2⟩ := ih (by omega)
    rw [st_k2_t1_succ (F := Ideal) Variants.none c none i a1 h1 a2 h2 a3 h3 (k2_pay5 i) (k2_pay6 i)
      (iota Kind.tc S4096x1 32 [0] iota_S4096x1_d0_w32) (64#32) k2_pay7 k2_pay8 k2_pay9 (h1.unread x0)
      (h2.unread x1) (k2_pay12, k2_pay13) ⟨n, hT⟩]
    dsimp only at ih1 ih2 ⊢
    generalize st_k2_t1 (F := Ideal) Variants.none c none i a1 h1 a2 h2 a3 h3 (k2_pay5 i) (k2_pay6 i)
      (iota Kind.tc S4096x1 32 [0] iota_S4096x1_d0_w32) (64#32) k2_pay7 k2_pay8 k2_pay9 (h1.unread x0)
      (h2.unread x1) (k2_pay12, k2_pay13) n = acc at ih1 ih2 ⊢
    unfold tripR_k2_t1 trip_k2_t1
    dsimp only
    sl_unfold_words
    simp only [View.readAt_eq_ld, h1.read_unread, h2.read_unread]
    have ha : ∀ (p : Fin 4096) (l : Fin 128), k2_pay2 (F := Ideal) (k2_pay5 i) (k2_pay6 i)
        (k2_pay10 (k2_pay5 i) 64#32 k2_pay7 k2_pay8 k2_pay9) (k2_pay11 (k2_pay6 i) (iota Kind.tc S4096x1 32 [0] iota_S4096x1_d0_w32))
        (View.ld x0 (Rect.unit (s := S8x4096) (k2_off1 ⟨n, hT⟩) S8x128.size (k2_off1_inb ⟨n, hT⟩))) (ix2 p l)
          = (fun p m => al A (i 0).val p.val (128 * n + m)) p l.val := fun p l => by
      rw [pay2_eq, pay10_eq (i 0).val _ (pay5_eq i), pay11_eq (i 0).val _ (pay6_eq i), pay5_eq i, pay6_eq i]
      simp only [ld_block1 x0 A hA]
      rfl
    have hw := pay4_eq (fun p m => al A (i 0).val p.val (128 * n + m)) _ _ _ _ _ ha
    refine ⟨?_, fun q => ?_⟩
    · refine (pay16_eq _ _ _ _ hw p).trans ?_
      rw [ih1, show 128 * (n + 1) = 128 * n + 128 by omega, trans_add]
    · refine (pay15_eq _ _ _ _ _ _ _ (fun q m => B q (128 * n + m)) hw ha
        (fun l q => ld_block2 x1 B hB ⟨n, hT⟩ l q) p q).trans ?_
      rw [ih1, ih2, show 128 * (n + 1) = 128 * n + 128 by omega, paint_add]

include hA hB in
/-- What a tile holds in the end. -/
theorem tile_eq (p : Fin 4096) (q : Fin 8) :
    out2_A_2 (F := Ideal) c i a1 h1 a2 h2 a3 h3 x0 x1 (ix3 0 p q)
      = if q.val < 3 then min 1 (max 0 (paint (al A (i 0).val p.val) (B q) 4096 + (1 - paint (al A (i 0).val p.val) (B 4) 4096)))
        else if q.val < 5 then paint (al A (i 0).val p.val) (B q) 4096 else 0 := by
  unfold out2_A_2
  rw [View.read_writes_eq_canon _ _ _ (cover2_A_2 c i a1 h1 a2 h2 a3 h3 x0 x1)]
  unfold kernelRun2_A
  dsimp only
  sl_unfold_words
  have hz : (![0, 0, 0] : Fin 3 → Nat) = fun _ => 0 := by funext a; fin_cases a <;> rfl
  rw [View.canon_unit_zero hz]
  have hs := fun q => (loop_state c i a1 h1 a2 h2 a3 h3 x0 x1 A B hA hB 32 (by omega) p).2 q
  have ht : Scf.trips k2_t1_loop.lb k2_t1_loop.ub k2_t1_loop.st = 32 := by decide +kernel
  rw [ht]
  refine (pay1_eq _ p q).trans ?_
  rw [hs q, hs 4]

end tile

end Cert.KernelIdeal.Value

end
-- ==== Proof.KArrTiles.lean ====
/- The rendered array after the third launch: the sixteen tiles, side by side. -/
module

public import proofs.«01_k».proof.Proof.KProj
public import proofs.«01_k».proof.Proof.KSort
public import proofs.«01_k».proof.Proof.KRender
public import Idealize.ShloMosaic.Lib.Pipeline.Value

@[expose] public section

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Splat

set_option maxRecDepth 16384
set_option maxHeartbeats 2000000

/-- Step `t` of the third launch writes block `t` of the tiles. -/
theorem idx2_2 : ∀ t : Fin grid2.N, win2_2.index t 0 = t.val ∧ win2_2.index t 1 = 0 ∧ win2_2.index t 2 = 0
    ∧ (grid2.coords t 0).val = t.val := by decide +kernel

/-- Sixteen tiles, side by side. -/
def tiles (O : Fin cfg2.N → Vec Ideal S1x4096x8 .f32) : S16x4096x8.Idx → EReal :=
  fun i => O ⟨(i 0).val, by rw [show cfg2.N = 16 from N_2]; exact (i 0).isLt⟩
    (ix3 (0 : Fin 1) (⟨(i 1).val, (i 1).isLt⟩ : Fin 4096) (⟨(i 2).val, (i 2).isLt⟩ : Fin 8))

/-- The stacked blocks hold block `t`'s entry at its place in tile `t`. -/
theorem tiles_at (O : Fin cfg2.N → Vec Ideal S1x4096x8 .f32) (t : Fin cfg2.N) (y : S1x4096x8.Idx) (i : S16x4096x8.Idx)
    (h0 : (i 0).val = t.val) (h1 : (i 1).val = (y 1).val) (h2 : (i 2).val = (y 2).val) : O t y = tiles O i := by
  unfold tiles
  have e : (⟨(i 0).val, by rw [show cfg2.N = 16 from N_2]; exact (i 0).isLt⟩ : Fin cfg2.N) = t := Fin.ext h0
  rw [e]
  congr 1
  funext a
  apply Fin.ext
  have hj0 : (y 0).val < 1 := (y 0).isLt
  match a with
  | ⟨0, _⟩ => show (y 0).val = 0; omega
  | ⟨1, _⟩ => exact h1.symm
  | ⟨2, _⟩ => exact h2.symm

/-- Block `t` of the stacked blocks is what step `t` leaves. -/
theorem tile_read (O : Fin cfg2.N → Vec Ideal S1x4096x8 .f32) (c : Dev nD) (t : Fin cfg2.N) :
    O t = ((cfg2.win 2).blk t).view.read (Elt Ideal) (tiles O : Buf (Elt Ideal) ((c : Thread nD τ).loc main_call0_v12)) := by
  have hi := idx2_2 t
  funext j
  rw [View.read_apply]
  refine tiles_at O t j _ ?_ ?_ ?_
  · show win2_2.index t 0 * 1 + 1 * (j 0).val = t.val
    have hj0 : (j 0).val < 1 := (j 0).isLt
    rw [hi.1]; omega
  · show win2_2.index t 1 * 4096 + 1 * (j 1).val = (j 1).val; rw [hi.2.1]; omega
  · show win2_2.index t 2 * 8 + 1 * (j 2).val = (j 2).val; rw [hi.2.2.1]; omega

variable (V : (c : Dev nD) → (b : Ref sig .tc) → Buf (Elt Ideal) ((c : Thread nD τ).loc b)) (c : Dev nD)

/-- The third launch leaves the blocks of all its steps, stacked. -/
theorem arr2_2 : (dat2 V c).arrAt 2 cfg2.N = tiles (outsAt2 V c) :=
  (dat2 V c).arrAt_eq_of_cover 2 (tiles (outsAt2 V c)) (fun t hf => by
    show (cfg2.win 2).cut (grid2.coords t) ((dat2 V c).after 2 t) = _
    rw [after2_2]
    exact tile_read (outsAt2 V c) c t) fun i =>
    ⟨⟨(i 0).val, by rw [show cfg2.N = 16 from N_2]; exact (i 0).isLt⟩, flush2_2 _, by
      generalize ht : (⟨(i 0).val, by rw [show cfg2.N = 16 from N_2]; exact (i 0).isLt⟩ : Fin cfg2.N) = t
      have hv : t.val = (i 0).val := by rw [← ht]
      have hi := idx2_2 t
      show i ∈ ((View.whole main_call0_v12).slice (win2_2.rect t)).set
      rw [View.set_slice_whole, Rect.mem_set_unit]
      intro a
      have h0 : (i 0 : Nat) < 16 := (i 0).isLt
      have h1 : (i 1 : Nat) < 4096 := (i 1).isLt
      have h2 : (i 2 : Nat) < 8 := (i 2).isLt
      match a with
      | ⟨0, _⟩ => show win2_2.index t 0 * 1 ≤ (i 0 : Nat) ∧ (i 0 : Nat) < win2_2.index t 0 * 1 + 1; rw [hi.1]; omega
      | ⟨1, _⟩ => show win2_2.index t 1 * 4096 ≤ (i 1 : Nat) ∧ (i 1 : Nat) < win2_2.index t 1 * 4096 + 4096; rw [hi.2.1]; omega
      | ⟨2, _⟩ => show win2_2.index t 2 * 8 ≤ (i 2 : Nat) ∧ (i 2 : Nat) < win2_2.index t 2 * 8 + 8; rw [hi.2.2.1]; omega⟩

end Cert.KernelIdeal.Value

end
-- ==== Proof.KArr.lean ====
/- What the kernel's three launches leave in their result arrays, read at an index, from what their input arrays hold. -/
module

public import proofs.«01_k».proof.Proof.KProj
public import proofs.«01_k».proof.Proof.KSort
public import proofs.«01_k».proof.Proof.KRender
public import Idealize.ShloMosaic.Lib.Pipeline.Value

@[expose] public section

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Splat

set_option maxRecDepth 16384
set_option maxHeartbeats 2000000

variable (V : (c : Dev nD) → (b : Ref sig .tc) → Buf (Elt Ideal) ((c : Thread nD τ).loc b)) (c : Dev nD)

/-! ## An input window over a whole array reads that array -/

/-- The first launch reads the transposed means whole. -/
theorem in0_0 (t : Fin cfg0.N) : iblk0 V c 0 t = V c main_call0_v0 := by
  unfold iblk0
  have hz' : (fun a => win0_0.index t a * main_call0_v0.ty.shape.size a) = fun _ => 0 := funext fun a => by fin_cases a <;> rfl
  exact Memref.read_access_unit_zero (Elt Ideal) main_call0_v0 hz' (fun a => by rw [congrFun hz' a]; simp) (V c main_call0_v0)

/-- It reads the row of scales whole. -/
theorem in0_1 (t : Fin cfg0.N) : iblk0 V c 1 t = V c main_call0_v1 := by
  unfold iblk0
  have hz' : (fun a => win0_1.index t a * main_call0_v1.ty.shape.size a) = fun _ => 0 := funext fun a => by fin_cases a <;> rfl
  exact Memref.read_access_unit_zero (Elt Ideal) main_call0_v1 hz' (fun a => by rw [congrFun hz' a]; simp) (V c main_call0_v1)

/-- It reads the row of opacities whole. -/
theorem in0_2 (t : Fin cfg0.N) : iblk0 V c 2 t = V c main_call0_v2 := by
  unfold iblk0
  have hz' : (fun a => win0_2.index t a * main_call0_v2.ty.shape.size a) = fun _ => 0 := funext fun a => by fin_cases a <;> rfl
  exact Memref.read_access_unit_zero (Elt Ideal) main_call0_v2 hz' (fun a => by rw [congrFun hz' a]; simp) (V c main_call0_v2)

/-- It reads the view matrix whole. -/
theorem in0_3 (t : Fin cfg0.N) : iblk0 V c 3 t = V c main_arg4 := by
  unfold iblk0
  have hz' : (fun a => win0_3.index t a * main_arg4.ty.shape.size a) = fun _ => 0 := funext fun a => by fin_cases a <;> rfl
  exact Memref.read_access_unit_zero (Elt Ideal) main_arg4 hz' (fun a => by rw [congrFun hz' a]; simp) (V c main_arg4)

/-- It reads the cast view matrix whole. -/
theorem in0_4 (t : Fin cfg0.N) : iblk0 V c 4 t = V c main_call0_v4 := by
  unfold iblk0
  have hz' : (fun a => win0_4.index t a * main_call0_v4.ty.shape.size a) = fun _ => 0 := funext fun a => by fin_cases a <;> rfl
  exact Memref.read_access_unit_zero (Elt Ideal) main_call0_v4 hz' (fun a => by rw [congrFun hz' a]; simp) (V c main_call0_v4)

/-- It reads the cast projection matrix whole. -/
theorem in0_5 (t : Fin cfg0.N) : iblk0 V c 5 t = V c main_call0_v6 := by
  unfold iblk0
  have hz' : (fun a => win0_5.index t a * main_call0_v6.ty.shape.size a) = fun _ => 0 := funext fun a => by fin_cases a <;> rfl
  exact Memref.read_access_unit_zero (Elt Ideal) main_call0_v6 hz' (fun a => by rw [congrFun hz' a]; simp) (V c main_call0_v6)

/-- The second launch reads the nine rows whole. -/
theorem in1_0 (t : Fin cfg1.N) : iblk1 V c 0 t = V c main_call0_v7_0 := by
  unfold iblk1
  have hz' : (fun a => win1_0.index t a * main_call0_v7_0.ty.shape.size a) = fun _ => 0 := funext fun a => by fin_cases a <;> rfl
  exact Memref.read_access_unit_zero (Elt Ideal) main_call0_v7_0 hz' (fun a => by rw [congrFun hz' a]; simp) (V c main_call0_v7_0)

/-- It reads the column of depths whole. -/
theorem in1_1 (t : Fin cfg1.N) : iblk1 V c 1 t = V c main_call0_v10 := by
  unfold iblk1
  have hz' : (fun a => win1_1.index t a * main_call0_v10.ty.shape.size a) = fun _ => 0 := funext fun a => by fin_cases a <;> rfl
  exact Memref.read_access_unit_zero (Elt Ideal) main_call0_v10 hz' (fun a => by rw [congrFun hz' a]; simp) (V c main_call0_v10)

/-- It reads the features whole. -/
theorem in1_2 (t : Fin cfg1.N) : iblk1 V c 2 t = V c main_arg3 := by
  unfold iblk1
  have hz' : (fun a => win1_2.index t a * main_arg3.ty.shape.size a) = fun _ => 0 := funext fun a => by fin_cases a <;> rfl
  exact Memref.read_access_unit_zero (Elt Ideal) main_arg3 hz' (fun a => by rw [congrFun hz' a]; simp) (V c main_arg3)

/-- The third launch reads the sorted rows whole at every step. -/
theorem in2_0 (t : Fin cfg2.N) : iblk2 V c 0 t = V c main_call0_v11_0 := by
  unfold iblk2
  have hz' : (fun a => win2_0.index t a * main_call0_v11_0.ty.shape.size a) = fun _ => 0 := funext fun a => by
    fin_cases a <;> exact (by decide +kernel : ∀ t : Fin grid2.N, win2_0.index t _ * main_call0_v11_0.ty.shape.size _ = 0) t
  exact Memref.read_access_unit_zero (Elt Ideal) main_call0_v11_0 hz' (fun a => by rw [congrFun hz' a]; simp) (V c main_call0_v11_0)

/-- It reads the sorted columns whole at every step. -/
theorem in2_1 (t : Fin cfg2.N) : iblk2 V c 1 t = V c main_call0_v11_1 := by
  unfold iblk2
  have hz' : (fun a => win2_1.index t a * main_call0_v11_1.ty.shape.size a) = fun _ => 0 := funext fun a => by
    fin_cases a <;> exact (by decide +kernel : ∀ t : Fin grid2.N, win2_1.index t _ * main_call0_v11_1.ty.shape.size _ = 0) t
  exact Memref.read_access_unit_zero (Elt Ideal) main_call0_v11_1 hz' (fun a => by rw [congrFun hz' a]; simp) (V c main_call0_v11_1)

/-! ## An output window over a whole array leaves what the one grid point wrote -/

/-- The first launch leaves the nine rows its body computes. -/
theorem arr0_6 : (dat0 V c).arrAt 6 cfg0.N = (outsAt0 V c t0_0).1 :=
  (dat0 V c).arrAt_eq_of_cover 6 _ (fun t hf => by
    obtain rfl := fin_N0 t
    show (cfg0.win 6).cut (grid0.coords t0_0) ((dat0 V c).after 6 t0_0) = _
    rw [after0_6]
    have hz' : (fun a => win0_6.index t0_0 a * main_call0_v7_0.ty.shape.size a) = fun _ => 0 := funext fun a => by fin_cases a <;> rfl
    exact (Memref.read_access_unit_zero (Elt Ideal) main_call0_v7_0 hz' (fun a => by rw [congrFun hz' a]; simp) _).symm) fun i =>
    ⟨t0_0, flush0_6 t0_0, by
      show i ∈ ((View.whole main_call0_v7_0).slice (win0_6.rect t0_0)).set
      rw [View.set_slice_whole, Rect.mem_set_unit]
      intro a
      have h0 : (i 0 : Nat) < 9 := (i 0).isLt
      have h1 : (i 1 : Nat) < 4096 := (i 1).isLt
      match a with
      | ⟨0, _⟩ => show 0 * 9 ≤ (i 0 : Nat) ∧ (i 0 : Nat) < 0 * 9 + 9; omega
      | ⟨1, _⟩ => show 0 * 4096 ≤ (i 1 : Nat) ∧ (i 1 : Nat) < 0 * 4096 + 4096; omega⟩

/-- The first launch leaves the radii its body computes. -/
theorem arr0_7 : (dat0 V c).arrAt 7 cfg0.N = (outsAt0 V c t0_0).2 :=
  (dat0 V c).arrAt_eq_of_cover 7 _ (fun t hf => by
    obtain rfl := fin_N0 t
    show (cfg0.win 7).cut (grid0.coords t0_0) ((dat0 V c).after 7 t0_0) = _
    rw [after0_7]
    have hz' : (fun a => win0_7.index t0_0 a * main_call0_v7_1.ty.shape.size a) = fun _ => 0 := funext fun a => by fin_cases a <;> rfl
    exact (Memref.read_access_unit_zero (Elt Ideal) main_call0_v7_1 hz' (fun a => by rw [congrFun hz' a]; simp) _).symm) fun i =>
    ⟨t0_0, flush0_7 t0_0, by
      show i ∈ ((View.whole main_call0_v7_1).slice (win0_7.rect t0_0)).set
      rw [View.set_slice_whole, Rect.mem_set_unit]
      intro a
      have h0 : (i 0 : Nat) < 1 := (i 0).isLt
      have h1 : (i 1 : Nat) < 4096 := (i 1).isLt
      match a with
      | ⟨0, _⟩ => show 0 * 1 ≤ (i 0 : Nat) ∧ (i 0 : Nat) < 0 * 1 + 1; omega
      | ⟨1, _⟩ => show 0 * 4096 ≤ (i 1 : Nat) ∧ (i 1 : Nat) < 0 * 4096 + 4096; omega⟩

/-- The second launch leaves the sorted rows its body computes. -/
theorem arr1_3 : (dat1 V c).arrAt 3 cfg1.N = (outsAt1 V c t1_0).1 :=
  (dat1 V c).arrAt_eq_of_cover 3 _ (fun t hf => by
    obtain rfl := fin_N1 t
    show (cfg1.win 3).cut (grid1.coords t1_0) ((dat1 V c).after 3 t1_0) = _
    rw [after1_3]
    have hz' : (fun a => win1_3.index t1_0 a * main_call0_v11_0.ty.shape.size a) = fun _ => 0 := funext fun a => by fin_cases a <;> rfl
    exact (Memref.read_access_unit_zero (Elt Ideal) main_call0_v11_0 hz' (fun a => by rw [congrFun hz' a]; simp) _).symm) fun i =>
    ⟨t1_0, flush1_3 t1_0, by
      show i ∈ ((View.whole main_call0_v11_0).slice (win1_3.rect t1_0)).set
      rw [View.set_slice_whole, Rect.mem_set_unit]
      intro a
      have h0 : (i 0 : Nat) < 8 := (i 0).isLt
      have h1 : (i 1 : Nat) < 4096 := (i 1).isLt
      match a with
      | ⟨0, _⟩ => show 0 * 8 ≤ (i 0 : Nat) ∧ (i 0 : Nat) < 0 * 8 + 8; omega
      | ⟨1, _⟩ => show 0 * 4096 ≤ (i 1 : Nat) ∧ (i 1 : Nat) < 0 * 4096 + 4096; omega⟩

/-- The second launch leaves the sorted columns its body computes. -/
theorem arr1_4 : (dat1 V c).arrAt 4 cfg1.N = (outsAt1 V c t1_0).2 :=
  (dat1 V c).arrAt_eq_of_cover 4 _ (fun t hf => by
    obtain rfl := fin_N1 t
    show (cfg1.win 4).cut (grid1.coords t1_0) ((dat1 V c).after 4 t1_0) = _
    rw [after1_4]
    have hz' : (fun a => win1_4.index t1_0 a * main_call0_v11_1.ty.shape.size a) = fun _ => 0 := funext fun a => by fin_cases a <;> rfl
    exact (Memref.read_access_unit_zero (Elt Ideal) main_call0_v11_1 hz' (fun a => by rw [congrFun hz' a]; simp) _).symm) fun i =>
    ⟨t1_0, flush1_4 t1_0, by
      show i ∈ ((View.whole main_call0_v11_1).slice (win1_4.rect t1_0)).set
      rw [View.set_slice_whole, Rect.mem_set_unit]
      intro a
      have h0 : (i 0 : Nat) < 4096 := (i 0).isLt
      have h1 : (i 1 : Nat) < 8 := (i 1).isLt
      match a with
      | ⟨0, _⟩ => show 0 * 4096 ≤ (i 0 : Nat) ∧ (i 0 : Nat) < 0 * 4096 + 4096; omega
      | ⟨1, _⟩ => show 0 * 8 ≤ (i 1 : Nat) ∧ (i 1 : Nat) < 0 * 8 + 8; omega⟩

end Cert.KernelIdeal.Value

end
-- ==== Proof.KHost.lean ====
/- What the kernel's host operations leave, each read at one entry. -/
module

public import proofs.«01_k».proof.Proof.Gen.KernelIdeal.Frame
public import Idealize.ShloMosaic.Lib.Pointwise
public import Idealize.ShloMosaic.Lib.StableHlo.RunRead

@[expose] public section

noncomputable section

namespace Cert.KernelIdeal.Value

open Idealize.ShloMosaic Idealize.ShloMosaic.TcCoe Idealize.SL.Sem
open Cert.KernelIdeal Cert.KernelIdeal.Gen

set_option maxRecDepth 16384
set_option maxHeartbeats 2000000

variable (V : Valuation τ sig (Elt Ideal))

/-- The means, transposed. -/
theorem host0_v0 (k : Fin 3) (i : Fin 4096) :
    StableHlo.after hostOps0 V (Proc.devRef .tc main_call0_v0) (ix2 k i) = V (Proc.devRef .tc main_arg0) (ix2 i k) := by
  have h : StableHlo.after hostOps0 V (Proc.devRef .tc main_call0_v0)
      = transpose S3x4096 [1, 0] (V (Proc.devRef .tc main_arg0)) transposes_S4096x3_S3x4096_1_0 := by
    unfold hostOps0
    after_reads_simp
    rfl
  rw [h]
  pointwise

/-- The scales as a row. -/
theorem host0_v1 (i : Fin 4096) :
    StableHlo.after hostOps0 V (Proc.devRef .tc main_call0_v1) (ix2 0 i) = V (Proc.devRef .tc main_arg2) (ix1 i) := by
  have h : StableHlo.after hostOps0 V (Proc.devRef .tc main_call0_v1)
      = shapeCast S1x4096 (V (Proc.devRef .tc main_arg2)) shapeCasts_S4096_S1x4096 := by
    unfold hostOps0
    after_reads_simp
    rfl
  rw [h]
  pointwise

/-- The opacities as a row. -/
theorem host0_v2 (i : Fin 4096) :
    StableHlo.after hostOps0 V (Proc.devRef .tc main_call0_v2) (ix2 0 i) = V (Proc.devRef .tc main_arg1) (ix2 i 0) := by
  have h : StableHlo.after hostOps0 V (Proc.devRef .tc main_call0_v2)
      = shapeCast S1x4096 (V (Proc.devRef .tc main_arg1)) shapeCasts_S4096x1_S1x4096 := by
    unfold hostOps0
    after_reads_simp
    rfl
  rw [h]
  pointwise

/-- The view matrix after its casts is the view matrix. -/
theorem host0_v4 (a b : Fin 4) :
    StableHlo.after hostOps0 V (Proc.devRef .tc main_call0_v4) (ix2 a b) = V (Proc.devRef .tc main_arg4) (ix2 a b) := by
  have h : StableHlo.after hostOps0 V (Proc.devRef .tc main_call0_v4)
      = (extf .f32 (truncf .bf16 (V (Proc.devRef .tc main_arg4) : FVec Ideal S4x4 .f32) bitsLt_bf16_f32) bitsLt_bf16_f32 : FVec Ideal S4x4 .f32) := by
    unfold hostOps0
    after_reads_simp
    rfl
  rw [h]
  pointwise

/-- The projection matrix after its casts is the projection matrix. -/
theorem host0_v6 (a b : Fin 4) :
    StableHlo.after hostOps0 V (Proc.devRef .tc main_call0_v6) (ix2 a b) = V (Proc.devRef .tc main_arg5) (ix2 a b) := by
  have h : StableHlo.after hostOps0 V (Proc.devRef .tc main_call0_v6)
      = (extf .f32 (truncf .bf16 (V (Proc.devRef .tc main_arg5) : FVec Ideal S4x4 .f32) bitsLt_bf16_f32) bitsLt_bf16_f32 : FVec Ideal S4x4 .f32) := by
    unfold hostOps0
    after_reads_simp
    rfl
  rw [h]
  pointwise

/-- The ninth row of the first launch as a column. -/
theorem host1_v10 (i : Fin 4096) :
    StableHlo.after hostOps1 V (Proc.devRef .tc main_call0_v10) (ix2 i 0) = V (Proc.devRef .tc main_call0_v7_0) (ix2 8 i) := by
  have h : StableHlo.after hostOps1 V (Proc.devRef .tc main_call0_v10)
      = shapeCast S4096x1 (shapeCast S4096 (extractStridedSlice S1x4096 ![8, 0] (V (Proc.devRef .tc main_call0_v7_0))
          slices_S9x4096_S1x4096_8_0) shapeCasts_S1x4096_S4096) shapeCasts_S4096_S4096x1 := by
    unfold hostOps1
    after_reads_simp
    rfl
  rw [h]
  pointwise

/-- The image the sixteen tiles make. -/
def image (x : Vec Ideal S16x4096x8 .f32) : Vec Ideal S256x256x8 .f32 :=
  shapeCast S256x256x8 (transpose S4x64x4x64x8 [0, 2, 1, 3, 4] (shapeCast S4x4x64x64x8 x shapeCasts_S16x4096x8_S4x4x64x64x8)
    transposes_S4x4x64x64x8_S4x64x4x64x8_0_2_1_3_4) shapeCasts_S4x64x4x64x8_S256x256x8

/-- The tile of the pixel in row `y` and column `x`, and its place in the tile. -/
def tileOf (y x : Fin 256) : Fin 16 := ⟨y.val / 64 * 4 + x.val / 64, by omega⟩
/-- The place in its tile of the pixel in row `y` and column `x`. -/
def placeOf (y x : Fin 256) : Fin 4096 := ⟨y.val % 64 * 64 + x.val % 64, by omega⟩

/-- The picture put together from the tiles, at a pixel. -/
theorem image_apply (v : Vec Ideal S16x4096x8 .f32) (y x : Fin 256) (q : Fin 8) :
    image v (ix3 y x q) = v (ix3 (tileOf y x) (placeOf y x) q) := by
  unfold image
  pointwise
  rfl

/-- The first result is the first three values of each pixel. -/
theorem host3_0 (y x : Fin 256) (k : Fin 3) :
    StableHlo.after hostOps3 V (Proc.devRef .tc main_v0_0) (ix3 y x k)
      = V (Proc.devRef .tc main_call0_v12) (ix3 (tileOf y x) (placeOf y x) (k.castLE (by decide))) := by
  have h : StableHlo.after hostOps3 V (Proc.devRef .tc main_v0_0)
      = extractStridedSlice S256x256x3 ![0, 0, 0] (image (V (Proc.devRef .tc main_call0_v12))) slices_S256x256x8_S256x256x3_0_0_0 := by
    unfold hostOps3 image
    after_reads_simp
    rfl
  rw [h]
  refine Eq.trans ?_ (image_apply _ y x _)
  pointwise
  rfl

/-- The second result is the fourth value of each pixel. -/
theorem host3_1 (y x : Fin 256) :
    StableHlo.after hostOps3 V (Proc.devRef .tc main_v0_1) (ix3 y x 0)
      = V (Proc.devRef .tc main_call0_v12) (ix3 (tileOf y x) (placeOf y x) 3) := by
  have h : StableHlo.after hostOps3 V (Proc.devRef .tc main_v0_1)
      = extractStridedSlice S256x256x1 ![0, 0, 3] (image (V (Proc.devRef .tc main_call0_v12))) slices_S256x256x8_S256x256x1_0_0_3 := by
    unfold hostOps3 image
    after_reads_simp
    rfl
  rw [h]
  refine Eq.trans ?_ (image_apply _ y x _)
  pointwise

/-- The third result is the fifth value of each pixel. -/
theorem host3_2 (y x : Fin 256) :
    StableHlo.after hostOps3 V (Proc.devRef .tc main_v0_2) (ix3 y x 0)
      = V (Proc.devRef .tc main_call0_v12) (ix3 (tileOf y x) (placeOf y x) 4) := by
  have h : StableHlo.after hostOps3 V (Proc.devRef .tc main_v0_2)
      = extractStridedSlice S256x256x1 ![0, 0, 4] (image (V (Proc.devRef .tc main_call0_v12))) slices_S256x256x8_S256x256x1_0_0_4 := by
    unfold hostOps3 image
    after_reads_simp
    rfl
  rw [h]
  refine Eq.trans ?_ (image_apply _ y x _)
  pointwise

/-- The fourth result is the row of radii. -/
theorem host3_3 (i : Fin 4096) :
    StableHlo.after hostOps3 V (Proc.devRef .tc main_v0_3) (ix1 i) = V (Proc.devRef .tc main_call0_v7_1) (ix2 0 i) := by
  have h : StableHlo.after hostOps3 V (Proc.devRef .tc main_v0_3)
      = shapeCast S4096 (V (Proc.devRef .tc main_call0_v7_1)) shapeCasts_S1x4096_S4096 := by
    unfold hostOps3
    after_reads_simp
    rfl
  rw [h]
  pointwise

end Cert.KernelIdeal.Value

end
-- ==== Proof.SceneOf.lean ====
/- The scene six input arrays hold. -/
module

public import proofs.«01_k».proof.Proof.Draw

@[expose] public section

noncomputable section

namespace Cert.Splat

open Idealize.ShloMosaic

/-- The scene in the six input arrays: means, opacities, scales, features, view and projection. -/
def sceneOf (a0 : (⟨2, ![4096, 3]⟩ : Shape).Idx → EReal) (a1 : (⟨2, ![4096, 1]⟩ : Shape).Idx → EReal)
    (a2 : (⟨1, ![4096]⟩ : Shape).Idx → EReal) (a3 : (⟨2, ![4096, 3]⟩ : Shape).Idx → EReal)
    (a4 a5 : (⟨2, ![4, 4]⟩ : Shape).Idx → EReal) : Scene where
  mean i k := a0 (ix2 i k)
  opacity i := a1 (ix2 i 0)
  scale i := a2 (ix1 i)
  feat i k := a3 (ix2 i k)
  view a b := a4 (ix2 a b)
  proj a b := a5 (ix2 a b)

end Cert.Splat

end
-- ==== Proof.KValue.lean ====
/- The kernel's four results, entry by entry, as functions of the scene. -/
module

public import proofs.«01_k».proof.Proof.KArrTiles
public import proofs.«01_k».proof.Proof.KArr
public import proofs.«01_k».proof.Proof.KHost
public import proofs.«01_k».proof.Proof.SceneOf

@[expose] public section

noncomputable section

namespace Cert.Splat

open Cert.KernelIdeal.Value

/-- The `n`th point in the order of the depths `D`. -/
def pickN (D : Fin 4096 → EReal) (n : Nat) : Fin 4096 := pick D ⟨n % 4096, Nat.mod_lt _ (by decide)⟩

/-- At a place below 4096 this is the point picked there. -/
theorem pickN_val (D : Fin 4096 → EReal) (n : Fin 4096) : pickN D n.val = pick D n :=
  congrArg (pick D) (Fin.ext (Nat.mod_eq_of_lt n.isLt))

/-- The rows of the `n`th point. -/
def rowN (s : Scene) (r : Fin 8) (n : Nat) : EReal := again (s.row r.castSucc (pickN (s.row 8) n))

/-- The columns of the `n`th point. -/
def colN (s : Scene) (q : Fin 8) (n : Nat) : EReal := again (colOf (s.row 8) s.feat (pickN (s.row 8) n) q)

end Cert.Splat

namespace Cert.KernelIdeal.Value

open Idealize.ShloMosaic Idealize.ShloMosaic.TcCoe Idealize.SL.Sem
open Cert.KernelIdeal Cert.KernelIdeal.Gen Cert.Splat

set_option maxRecDepth 16384
set_option maxHeartbeats 2000000

variable (m : (ℓ : Loc nD τ sig) → Buf (Elt Ideal) ℓ) (ρ : Dev nD → PrngReg) (c : Dev nD)

/-- The scene in a memory's argument arrays. -/
abbrev memScene : Scene := sceneOf (m ((c : Thread nD τ).loc main_arg0)) (m ((c : Thread nD τ).loc main_arg1))
  (m ((c : Thread nD τ).loc main_arg2)) (m ((c : Thread nD τ).loc main_arg3))
  (m ((c : Thread nD τ).loc main_arg4)) (m ((c : Thread nD τ).loc main_arg5))

/-- The first launch leaves the nine rows. -/
theorem rows2 (r : Fin 9) (i : Fin 4096) : W2 m ρ c (Proc.devRef .tc main_call0_v7_0) (ix2 r i) = (memScene m c).row r i := by
  refine (congrFun ((W2_arr m ρ c 6).trans (arr0_6 (V1 m ρ) c)) (ix2 r i)).trans ?_
  unfold outsAt0
  dsimp only
  exact proj_rows c _ _ _ _ _ _ _ _ _ _ _ _ _ _ _ _ _ _ _ _ _ _ (memScene m c)
    (fun i k => (congrFun (in0_0 (V1 m ρ) c t0_0) (ix2 k i)).trans (host0_v0 _ k i))
    (fun i => (congrFun (in0_1 (V1 m ρ) c t0_0) (ix2 0 i)).trans (host0_v1 _ i))
    (fun i => (congrFun (in0_2 (V1 m ρ) c t0_0) (ix2 0 i)).trans (host0_v2 _ i))
    (fun a b => (congrFun (in0_3 (V1 m ρ) c t0_0) (ix2 a b)).trans (congrFun (W1_args m ρ c main_arg4 (by decide)) (ix2 a b)))
    (fun a b => (congrFun (in0_4 (V1 m ρ) c t0_0) (ix2 a b)).trans (host0_v4 _ a b))
    (fun a b => (congrFun (in0_5 (V1 m ρ) c t0_0) (ix2 a b)).trans (host0_v6 _ a b)) r i

/-- The first launch leaves the radii. -/
theorem radii2 (i : Fin 4096) : W2 m ρ c (Proc.devRef .tc main_call0_v7_1) (ix2 0 i) = (memScene m c).radius i := by
  refine (congrFun ((W2_arr m ρ c 7).trans (arr0_7 (V1 m ρ) c)) (ix2 0 i)).trans ?_
  unfold outsAt0
  dsimp only
  exact proj_radius c _ _ _ _ _ _ _ _ _ _ _ _ _ _ _ _ _ _ _ _ _ _ (memScene m c)
    (fun i k => (congrFun (in0_0 (V1 m ρ) c t0_0) (ix2 k i)).trans (host0_v0 _ k i))
    (fun i => (congrFun (in0_1 (V1 m ρ) c t0_0) (ix2 0 i)).trans (host0_v1 _ i))
    (fun i => (congrFun (in0_2 (V1 m ρ) c t0_0) (ix2 0 i)).trans (host0_v2 _ i))
    (fun a b => (congrFun (in0_3 (V1 m ρ) c t0_0) (ix2 a b)).trans (congrFun (W1_args m ρ c main_arg4 (by decide)) (ix2 a b)))
    (fun a b => (congrFun (in0_4 (V1 m ρ) c t0_0) (ix2 a b)).trans (host0_v4 _ a b))
    (fun a b => (congrFun (in0_5 (V1 m ρ) c t0_0) (ix2 a b)).trans (host0_v6 _ a b)) i

/-- The host operations after the first launch keep its rows. -/
theorem rows3 (r : Fin 9) (i : Fin 4096) : W3 m ρ c (Proc.devRef .tc main_call0_v7_0) (ix2 r i) = (memScene m c).row r i :=
  (congrFun (W3_of m ρ c main_call0_v7_0 (by decide)) (ix2 r i)).trans (rows2 m ρ c r i)

/-- The second launch reads the depths as a column. -/
theorem depth3 (i : Fin 4096) : W3 m ρ c (Proc.devRef .tc main_call0_v10) (ix2 i 0) = (memScene m c).row 8 i :=
  (host1_v10 (W2 m ρ c) i).trans (rows2 m ρ c 8 i)

/-- The second launch reads the features as given. -/
theorem feat3 (i : Fin 4096) (k : Fin 3) : W3 m ρ c (Proc.devRef .tc main_arg3) (ix2 i k) = (memScene m c).feat i k :=
  congrFun (W3_args m ρ c main_arg3 (by decide)) (ix2 i k)

/-- The second launch leaves the rows in the order of depth. -/
theorem rows4 (r : Fin 8) (n : Fin 4096) : W4 m ρ c (Proc.devRef .tc main_call0_v11_0) (ix2 r n) = rowN (memScene m c) r n.val := by
  refine (congrFun ((W4_arr m ρ c 3).trans (arr1_3 (V3 m ρ) c)) (ix2 r n)).trans ?_
  unfold outsAt1
  dsimp only
  unfold rowN
  rw [pickN_val]
  exact sort_rows (R := (memScene m c).row)
    (hx0 := fun r i => (congrFun (in1_0 (V3 m ρ) c t1_0) (ix2 r i)).trans (rows3 m ρ c r i))
    (hx1 := fun i => (congrFun (in1_1 (V3 m ρ) c t1_0) (ix2 i 0)).trans (depth3 m ρ c i)) ..

/-- The second launch leaves the columns in the order of depth. -/
theorem cols4 (n : Fin 4096) (q : Fin 8) : W4 m ρ c (Proc.devRef .tc main_call0_v11_1) (ix2 n q) = colN (memScene m c) q n.val := by
  refine (congrFun ((W4_arr m ρ c 4).trans (arr1_4 (V3 m ρ) c)) (ix2 n q)).trans ?_
  unfold outsAt1
  dsimp only
  unfold colN
  rw [pickN_val]
  exact sort_cols (R := (memScene m c).row) (f := (memScene m c).feat)
    (hx0 := fun r i => (congrFun (in1_0 (V3 m ρ) c t1_0) (ix2 r i)).trans (rows3 m ρ c r i))
    (hx1 := fun i => (congrFun (in1_1 (V3 m ρ) c t1_0) (ix2 i 0)).trans (depth3 m ρ c i))
    (hx2 := fun i k => (congrFun (in1_2 (V3 m ρ) c t1_0) (ix2 i k)).trans (feat3 m ρ c i k)) ..

/-- The third launch leaves the tiles. -/
theorem tiles5 (t : Fin 16) (p : Fin 4096) (q : Fin 8) : W5 m ρ c (Proc.devRef .tc main_call0_v12) (ix3 t p q)
    = if q.val < 3 then min 1 (max 0 (paint (al (rowN (memScene m c)) t.val p.val) (colN (memScene m c) q) 4096
          + (1 - paint (al (rowN (memScene m c)) t.val p.val) (colN (memScene m c) 4) 4096)))
      else if q.val < 5 then paint (al (rowN (memScene m c)) t.val p.val) (colN (memScene m c) q) 4096 else 0 := by
  have ht : t.val < cfg2.N := by rw [show cfg2.N = 16 from N_2]; exact t.isLt
  refine (congrFun ((W5_arr m ρ c 2).trans (arr2_2 (V4 m ρ) c)) (ix3 t p q)).trans ?_
  refine (tiles_at (outsAt2 (V4 m ρ) c) ⟨t.val, ht⟩ (ix3 (0 : Fin 1) p q) (ix3 t p q) rfl rfl rfl).symm.trans ?_
  have h := (idx2_2 ⟨t.val, ht⟩).2.2.2
  unfold outsAt2
  refine (tile_eq (A := rowN (memScene m c)) (B := colN (memScene m c))
    (hA := fun r n => (congrFun (in2_0 (V4 m ρ) c ⟨t.val, ht⟩) (ix2 r n)).trans (rows4 m ρ c r n))
    (hB := fun n q => (congrFun (in2_1 (V4 m ρ) c ⟨t.val, ht⟩) (ix2 n q)).trans (cols4 m ρ c n q)) ..).trans ?_
  rw [h]

/-- The kernel's image. -/
theorem result0 (y x : Fin 256) (k : Fin 3) : W6 m ρ c (Proc.devRef .tc main_v0_0) (ix3 y x k)
    = min 1 (max 0 (paint (al (rowN (memScene m c)) (tileOf y x).val (placeOf y x).val) (colN (memScene m c) (k.castLE (by decide))) 4096
        + (1 - paint (al (rowN (memScene m c)) (tileOf y x).val (placeOf y x).val) (colN (memScene m c) 4) 4096))) :=
  (host3_0 (W5 m ρ c) y x k).trans ((tiles5 m ρ c _ _ _).trans (if_pos k.isLt))

/-- The kernel's depth map. -/
theorem result1 (y x : Fin 256) : W6 m ρ c (Proc.devRef .tc main_v0_1) (ix3 y x 0)
    = paint (al (rowN (memScene m c)) (tileOf y x).val (placeOf y x).val) (colN (memScene m c) 3) 4096 :=
  (host3_1 (W5 m ρ c) y x).trans (tiles5 m ρ c _ _ _)

/-- The kernel's opacity map. -/
theorem result2 (y x : Fin 256) : W6 m ρ c (Proc.devRef .tc main_v0_2) (ix3 y x 0)
    = paint (al (rowN (memScene m c)) (tileOf y x).val (placeOf y x).val) (colN (memScene m c) 4) 4096 :=
  (host3_2 (W5 m ρ c) y x).trans (tiles5 m ρ c _ _ _)

/-- The kernel's radii. -/
theorem result3 (i : Fin 4096) : W6 m ρ c (Proc.devRef .tc main_v0_3) (ix1 i) = (memScene m c).radius i :=
  (host3_3 (W5 m ρ c) i).trans ((congrFun ((W5_of m ρ c main_call0_v7_1 (by decide)).trans
    ((W4_of m ρ c main_call0_v7_1 (by decide)).trans (W3_of m ρ c main_call0_v7_1 (by decide)))) (ix2 0 i)).trans (radii2 m ρ c i))

end Cert.KernelIdeal.Value

end
-- ==== Proof.RefScene.lean ====
/- What the reference computes before its loop, as functions of the scene. -/
module

public import proofs.«01_k».proof.Proof.SceneOf
public import proofs.«01_k».proof.Proof.KRender
public import proofs.«01_k».proof.Proof.Gen.ReferenceIdeal.Step
public import Idealize.ShloMosaic.Lib.Pointwise

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Step Cert.Splat

set_option maxRecDepth 16384
set_option maxHeartbeats 2000000

variable (a0 : Vec Ideal S4096x3 .f32) (a1 : Vec Ideal S4096x1 .f32) (a2 : Vec Ideal S4096 .f32) (a3 : Vec Ideal S4096x3 .f32)
  (a4 a5 : Vec Ideal S4x4 .f32)

/-- The first three homogeneous coordinates of a point are its mean. -/
theorem v2_lt (i : Fin 4096) (k : Fin 3) : A_main_v2 (F := Ideal) a0 a1 a2 a4 a5 (ix2 i k.castSucc) = a0 (ix2 i k) := by
  match k with
  | 0 => pointwise [A_main_v2, K_main_v1, K_main_cst]; rfl
  | 1 => pointwise [A_main_v2, K_main_v1, K_main_cst]; rfl
  | 2 => pointwise [A_main_v2, K_main_v1, K_main_cst]; rfl

/-- The last homogeneous coordinate is 1. -/
theorem v2_last (i : Fin 4096) : A_main_v2 (F := Ideal) a0 a1 a2 a4 a5 (ix2 i 3) = 1 := by
  pointwise [A_main_v2, K_main_v1, K_main_cst]

/-- The points in the camera's frame. -/
theorem v3_apply (i : Fin 4096) (k : Fin 4) : A_main_v3 (F := Ideal) a0 a1 a2 a4 a5 (ix2 i k) = (sceneOf a0 a1 a2 a3 a4 a5).cam i k := by
  have h := v2_lt a0 a1 a2 a4 a5 i
  have h3 := v2_last a0 a1 a2 a4 a5 i
  unfold A_main_v3
  generalize A_main_v2 (F := Ideal) a0 a1 a2 a4 a5 = x at h h3
  pointwise
  rw [Fin.sum_univ_four, h3, one_mul]
  exact congrArg₂ _ (congrArg₂ _ (congrArg₂ _ (congrArg (· * _) (h 0)) (congrArg (· * _) (h 1))) (congrArg (· * _) (h 2))) rfl

/-- The points in clip space. -/
theorem v4_apply (i : Fin 4096) (k : Fin 4) : A_main_v4 (F := Ideal) a0 a1 a2 a4 a5 (ix2 i k) = (sceneOf a0 a1 a2 a3 a4 a5).clip i k := by
  have h := v3_apply a0 a1 a2 a3 a4 a5 i
  unfold A_main_v4
  generalize A_main_v3 (F := Ideal) a0 a1 a2 a4 a5 = x at h
  pointwise
  rw [Fin.sum_univ_four, h, h, h, h]
  rfl

/-- The perspective factor. -/
theorem v10_apply (i : Fin 4096) : A_main_v10 (F := Ideal) a0 a1 a2 a4 a5 (ix1 i) = (sceneOf a0 a1 a2 a3 a4 a5).persp i := by
  have h := v4_apply a0 a1 a2 a3 a4 a5 i
  unfold A_main_v10 A_main_v8 A_main_v6 A_main_v5
  generalize A_main_v4 (F := Ideal) a0 a1 a2 a4 a5 = x at h
  pointwise [K_main_v7, K_main_cst_0, K_main_v9, K_main_cst_1]
  rw [h]
  rfl

/-- The pixel columns. -/
theorem v21_apply (i : Fin 4096) : A_main_v21 (F := Ideal) a0 a1 a2 a4 a5 (ix1 i) = (sceneOf a0 a1 a2 a3 a4 a5).pix i 0 := by
  have h := v4_apply a0 a1 a2 a3 a4 a5 i
  have h' := v10_apply a0 a1 a2 a3 a4 a5 i
  unfold A_main_v21 A_main_v19 A_main_v17 A_main_v15 A_main_v13 A_main_v12 A_main_v11
  generalize A_main_v4 (F := Ideal) a0 a1 a2 a4 a5 = x at h
  generalize A_main_v10 (F := Ideal) a0 a1 a2 a4 a5 = y at h'
  pointwise [K_main_v14, K_main_cst_2, K_main_v16, K_main_cst_3, K_main_v18, K_main_cst_4, K_main_v20, K_main_cst_5]
  rw [h, h']
  rfl

/-- The pixel rows. -/
theorem v32_apply (i : Fin 4096) : A_main_v32 (F := Ideal) a0 a1 a2 a4 a5 (ix1 i) = (sceneOf a0 a1 a2 a3 a4 a5).pix i 1 := by
  have h := v4_apply a0 a1 a2 a3 a4 a5 i
  have h' := v10_apply a0 a1 a2 a3 a4 a5 i
  unfold A_main_v32 A_main_v30 A_main_v28 A_main_v26 A_main_v24 A_main_v23 A_main_v22
  generalize A_main_v4 (F := Ideal) a0 a1 a2 a4 a5 = x at h
  generalize A_main_v10 (F := Ideal) a0 a1 a2 a4 a5 = y at h'
  pointwise [K_main_v25, K_main_cst_6, K_main_v27, K_main_cst_7, K_main_v29, K_main_cst_8, K_main_v31, K_main_cst_9]
  rw [h, h']
  rfl

/-- The depths. -/
theorem v34_apply (i : Fin 4096) : A_main_v34 (F := Ideal) a0 a1 a2 a4 a5 (ix1 i) = (sceneOf a0 a1 a2 a3 a4 a5).depth i := by
  have h := v3_apply a0 a1 a2 a3 a4 a5 i
  unfold A_main_v34 A_main_v33
  generalize A_main_v3 (F := Ideal) a0 a1 a2 a4 a5 = x at h
  pointwise
  exact h 2

/-- The depth, computed the second way. -/
theorem v41_apply (i : Fin 4096) : A_main_v41 (F := Ideal) a0 a1 a2 a4 a5 (ix1 i) = (sceneOf a0 a1 a2 a3 a4 a5).depth i := by
  pointwise [A_main_v41, A_main_v40, A_main_v39, A_main_v38, A_main_v37, A_main_v36, A_main_v35]
  rw [Fin.sum_univ_three]
  rfl

/-- The sizes. -/
theorem v48_apply (i : Fin 4096) : A_main_v48 (F := Ideal) a0 a1 a2 a4 a5 (ix1 i) = (sceneOf a0 a1 a2 a3 a4 a5).size i := by
  have h := v41_apply a0 a1 a2 a3 a4 a5 i
  unfold A_main_v48 A_main_v47 A_main_v46 A_main_v44 A_main_v43
  generalize A_main_v41 (F := Ideal) a0 a1 a2 a4 a5 = x at h
  pointwise [K_main_v45, K_main_cst_11, K_main_v42, K_main_cst_10]
  rw [h]
  rfl

/-- The squared size. -/
theorem v118_apply (i : Fin 4096) : A_main_v118 (F := Ideal) a0 a1 a2 a4 a5 (ix1 i) = (sceneOf a0 a1 a2 a3 a4 a5).size i * (sceneOf a0 a1 a2 a3 a4 a5).size i := by
  have h := v48_apply a0 a1 a2 a3 a4 a5 i
  unfold A_main_v118
  generalize A_main_v48 (F := Ideal) a0 a1 a2 a4 a5 = x at h
  pointwise
  rw [h]

/-- The opacity. -/
theorem v119_apply (i : Fin 4096) : A_main_v119 (F := Ideal) a0 a1 a2 a4 a5 (ix1 i) = (sceneOf a0 a1 a2 a3 a4 a5).opacity i := by
  pointwise [A_main_v119]
  rfl

/-- The radii. -/
theorem v50_apply (i : Fin 4096) : A_main_v50 (F := Ideal) a0 a1 a2 a4 a5 (ix1 i) = (sceneOf a0 a1 a2 a3 a4 a5).radius i := by
  have h := v48_apply a0 a1 a2 a3 a4 a5 i
  unfold A_main_v50
  generalize A_main_v48 (F := Ideal) a0 a1 a2 a4 a5 = x at h
  pointwise [K_main_v49, K_main_cst_12]
  rw [h]
  rfl

/-- The lower column of a point's square. -/
theorem v52_apply (i : Fin 4096) : A_main_v52 (F := Ideal) a0 a1 a2 a4 a5 (ix1 i) = (sceneOf a0 a1 a2 a3 a4 a5).lo i 0 := by
  have h := v21_apply a0 a1 a2 a3 a4 a5 i
  have h' := v50_apply a0 a1 a2 a3 a4 a5 i
  unfold A_main_v52 A_main_call0_v2 A_main_v51
  generalize A_main_v21 (F := Ideal) a0 a1 a2 a4 a5 = x at h
  generalize A_main_v50 (F := Ideal) a0 a1 a2 a4 a5 = y at h'
  pointwise [K_main_call0_v1, K_main_call0_v0, K_main_cst_13, K_main_call0_v4, K_main_call0_v3, K_main_cst_14, id_eq]
  rw [h, h']
  rfl

/-- The lower row of a point's square. -/
theorem v54_apply (i : Fin 4096) : A_main_v54 (F := Ideal) a0 a1 a2 a4 a5 (ix1 i) = (sceneOf a0 a1 a2 a3 a4 a5).lo i 1 := by
  have h := v32_apply a0 a1 a2 a3 a4 a5 i
  have h' := v50_apply a0 a1 a2 a3 a4 a5 i
  unfold A_main_v54 A_main_call1_v2 A_main_v53
  generalize A_main_v32 (F := Ideal) a0 a1 a2 a4 a5 = x at h
  generalize A_main_v50 (F := Ideal) a0 a1 a2 a4 a5 = y at h'
  pointwise [K_main_call1_v1, K_main_call1_v0, K_main_cst_15, K_main_call1_v4, K_main_call1_v3, K_main_cst_16, id_eq]
  rw [h, h']
  rfl

/-- The upper column of a point's square. -/
theorem v56_apply (i : Fin 4096) : A_main_v56 (F := Ideal) a0 a1 a2 a4 a5 (ix1 i) = (sceneOf a0 a1 a2 a3 a4 a5).hi i 0 := by
  have h := v21_apply a0 a1 a2 a3 a4 a5 i
  have h' := v50_apply a0 a1 a2 a3 a4 a5 i
  unfold A_main_v56 A_main_call2_v2 A_main_v55
  generalize A_main_v21 (F := Ideal) a0 a1 a2 a4 a5 = x at h
  generalize A_main_v50 (F := Ideal) a0 a1 a2 a4 a5 = y at h'
  pointwise [K_main_call2_v1, K_main_call2_v0, K_main_cst_17, K_main_call2_v4, K_main_call2_v3, K_main_cst_18, id_eq]
  rw [h, h']
  rfl

/-- The upper row of a point's square. -/
theorem v58_apply (i : Fin 4096) : A_main_v58 (F := Ideal) a0 a1 a2 a4 a5 (ix1 i) = (sceneOf a0 a1 a2 a3 a4 a5).hi i 1 := by
  have h := v32_apply a0 a1 a2 a3 a4 a5 i
  have h' := v50_apply a0 a1 a2 a3 a4 a5 i
  unfold A_main_v58 A_main_call3_v2 A_main_v57
  generalize A_main_v32 (F := Ideal) a0 a1 a2 a4 a5 = x at h
  generalize A_main_v50 (F := Ideal) a0 a1 a2 a4 a5 = y at h'
  pointwise [K_main_call3_v1, K_main_call3_v0, K_main_cst_19, K_main_call3_v4, K_main_call3_v3, K_main_cst_20, id_eq]
  rw [h, h']
  rfl

/-- The word of a tile's left column. -/
theorem word64 : ∀ t : Fin 16, IntOp.muli (IntOp.remsi .host (BitVec.ofNat 32 t.val) 4#32) 64#32 = BitVec.ofNat 32 (64 * (t.val % 4)) := by
  decide +kernel

/-- The word of a tile's top row. -/
theorem word69 : ∀ t : Fin 16, IntOp.muli (IntOp.divsi .host (BitVec.ofNat 32 t.val) 4#32) 64#32 = BitVec.ofNat 32 (64 * (t.val / 4)) := by
  decide +kernel

/-- The word of a pixel's column in its tile. -/
theorem word74 : ∀ p : Fin 4096, IntOp.remsi .host (BitVec.ofNat 32 p.val) 64#32 = BitVec.ofNat 32 (p.val % 64) := by
  decide +kernel

/-- The word of a pixel's row in its tile. -/
theorem word82 : ∀ p : Fin 4096, IntOp.divsi .host (BitVec.ofNat 32 p.val) 64#32 = BitVec.ofNat 32 (p.val / 64) := by
  decide +kernel

/-- The left column of a tile. -/
theorem v64_apply (t : Fin 16) : K_main_v64 (F := Ideal) (ix1 t) = tileX t.val := by
  pointwise [K_main_v64, K_main_v63, K_main_v61, K_main_v62, K_main_c_21, K_main_v59, K_main_v60, K_main_c]
  exact KernelIdeal.Value.sitofp_num _ _ (word64 t) (by omega)

/-- The top row of a tile. -/
theorem v69_apply (t : Fin 16) : K_main_v69 (F := Ideal) (ix1 t) = tileY t.val := by
  pointwise [K_main_v69, K_main_v68, K_main_v66, K_main_v67, K_main_c_23, K_main_v59, K_main_v65, K_main_c_22]
  exact KernelIdeal.Value.sitofp_num _ _ (word69 t) (by omega)

/-- The column of a pixel in its tile. -/
theorem v74_apply (p : Fin 4096) : K_main_v74 (F := Ideal) (ix1 p) = num (p.val % 64) := by
  pointwise [K_main_v74, K_main_v73, K_main_v70, K_main_v72, K_main_c_24]
  exact KernelIdeal.Value.sitofp_num _ _ (word74 p) (by omega)

/-- The row of a pixel in its tile. -/
theorem v82_apply (p : Fin 4096) : K_main_v82 (F := Ideal) (ix1 p) = num (p.val / 64) := by
  pointwise [K_main_v82, K_main_v81, K_main_v70, K_main_v80, K_main_c_25]
  exact KernelIdeal.Value.sitofp_num _ _ (word82 p) (by omega)

/-- The columns of the pixels of a tile. -/
theorem v78_apply (t : Fin 16) (p : Fin 4096) : K_main_v78 (F := Ideal) (ix2 t p) = pixX t.val p.val := by
  have h := v64_apply t
  have h' := v74_apply p
  unfold K_main_v78 K_main_v77 K_main_v76 K_main_v75 K_main_v71
  generalize K_main_v64 (F := Ideal) = x at h
  generalize K_main_v74 (F := Ideal) = y at h'
  pointwise
  rw [h, h']
  rfl

/-- The rows of the pixels of a tile. -/
theorem v86_apply (t : Fin 16) (p : Fin 4096) : K_main_v86 (F := Ideal) (ix2 t p) = pixY t.val p.val := by
  have h := v69_apply t
  have h' := v82_apply p
  unfold K_main_v86 K_main_v85 K_main_v84 K_main_v83 K_main_v79
  generalize K_main_v69 (F := Ideal) = x at h
  generalize K_main_v82 (F := Ideal) = y at h'
  pointwise
  rw [h, h']
  rfl

/-- The conjunction of two truth values, as words. -/
theorem and_bool (p q : Prop) [Decidable p] [Decidable q] (r : Prop) [Decidable r] (hr : r ↔ p ∧ q) :
    IntOp.andi (BitVec.ofBool (decide p)) (BitVec.ofBool (decide q)) = BitVec.ofBool (decide r) := by
  by_cases hp : p <;> by_cases hq : q <;> simp [hp, hq, hr] <;> rfl

/-- Which points reach into which tile. -/
theorem v113_apply (i : Fin 4096) (t : Fin 16) : A_main_v113 (F := Ideal) a0 a1 a2 a4 a5 (ix2 i t) =
    BitVec.ofBool (decide (Seen (tileX t.val) (tileY t.val) (fun r => (sceneOf a0 a1 a2 a3 a4 a5).row r.castSucc i))) := by
  have h1 := v52_apply a0 a1 a2 a3 a4 a5 i
  have h2 := v54_apply a0 a1 a2 a3 a4 a5 i
  have h3 := v56_apply a0 a1 a2 a3 a4 a5 i
  have h4 := v58_apply a0 a1 a2 a3 a4 a5 i
  have h5 := v64_apply t
  have h6 := v69_apply t
  unfold A_main_v113 A_main_v112 A_main_v111 A_main_v110 A_main_v108 A_main_v104 A_main_v103 A_main_v101 A_main_v97 A_main_v96 A_main_v94 A_main_v92 A_main_v91 A_main_v89 A_main_v87 K_main_v109 K_main_v107 K_main_v106 K_main_v102 K_main_v100 K_main_v99 K_main_v95 K_main_v93 K_main_v90 K_main_v88
  generalize A_main_v52 (F := Ideal) a0 a1 a2 a4 a5 = x1 at h1
  generalize A_main_v54 (F := Ideal) a0 a1 a2 a4 a5 = x2 at h2
  generalize A_main_v56 (F := Ideal) a0 a1 a2 a4 a5 = x3 at h3
  generalize A_main_v58 (F := Ideal) a0 a1 a2 a4 a5 = x4 at h4
  generalize K_main_v64 (F := Ideal) = x5 at h5
  generalize K_main_v69 (F := Ideal) = x6 at h6
  pointwise [K_main_v98, K_main_v105, K_main_cst_26, K_main_cst_27]
  rw [h1, h2, h3, h4, h5, h6]
  exact and_bool _ _ _ Iff.rfl

end Cert.ReferenceIdeal.Value

end
-- ==== Proof.Order.lean ====
/- The order of drawing matters only among the points that are seen: two orders which agree on those paint the same
   picture. -/
module

public import proofs.«01_k».proof.Proof.Draw

@[expose] public section

noncomputable section

namespace Cert.Splat

open Idealize.ShloMosaic

/-- One point drawn: the light left, and the sum so far. -/
def drawn (α g : Fin 4096 → EReal) (st : EReal × EReal) (i : Fin 4096) : EReal × EReal :=
  (st.1 * (1 - α i), st.2 + st.1 * α i * g i)

/-- Drawing a point of opacity zero changes nothing. -/
theorem drawn_unseen (α g : Fin 4096 → EReal) (st : EReal × EReal) (i : Fin 4096) (h : α i = 0) : drawn α g st i = st := by
  unfold drawn
  rw [h, sub_zero, mul_one, mul_zero, zero_mul, add_zero]

/-- Drawing a list is drawing those of its points that are seen. -/
theorem foldl_filter (α g : Fin 4096 → EReal) (S : Fin 4096 → Bool) (h : ∀ i, S i = false → α i = 0) :
    ∀ (l : List (Fin 4096)) (st : EReal × EReal), l.foldl (drawn α g) st = (l.filter S).foldl (drawn α g) st
  | [], _ => rfl
  | i :: l, st => by
    cases hS : S i with
    | true => rw [List.filter_cons_of_pos hS]; exact foldl_filter α g S h l _
    | false =>
      rw [List.filter_cons_of_neg (by simp [hS]), List.foldl_cons, drawn_unseen α g st i (h i hS)]
      exact foldl_filter α g S h l _

/-- Painting, as drawing one point after another. -/
theorem foldl_range (α g : Fin 4096 → EReal) (o : Nat → Fin 4096) (n : Nat) :
    ((List.range n).map o).foldl (drawn α g) (1, 0)
      = (trans (fun m => α (o m)) n, paint (fun m => α (o m)) (fun m => g (o m)) n) := by
  induction n with
  | zero => rfl
  | succ n ih =>
    rw [List.range_succ, List.map_append, List.foldl_append, ih, trans_succ, paint_succ]
    rfl

/-- Two orders that agree on the points seen list them alike. -/
theorem filter_eq (D : Fin 4096 → EReal) (S : Fin 4096 → Bool) (o o' : Nat → Fin 4096)
    (ho : ∀ i, ∃ n, n < 4096 ∧ o n = i) (ho' : ∀ i, ∃ n, n < 4096 ∧ o' n = i)
    (hb : ∀ m n, m < n → n < 4096 → S (o m) = true → S (o n) = true → Before D (o m) (o n))
    (hb' : ∀ m n, m < n → n < 4096 → S (o' m) = true → S (o' n) = true → Before D (o' m) (o' n)) :
    ((List.range 4096).map o).filter S = ((List.range 4096).map o').filter S := by
  have pw : ∀ o : Nat → Fin 4096,
      (∀ m n, m < n → n < 4096 → S (o m) = true → S (o n) = true → Before D (o m) (o n)) →
      (((List.range 4096).map o).filter S).Pairwise (Before D) := by
    intro o hb
    rw [List.pairwise_filter, List.pairwise_map]
    refine (List.pairwise_lt_range (n := 4096)).imp_of_mem ?_
    intro m n _ hn hmn h1 h2
    exact hb m n hmn (List.mem_range.mp hn) h1 h2
  have mem : ∀ o : Nat → Fin 4096, (∀ i, ∃ n, n < 4096 ∧ o n = i) → ∀ i, i ∈ ((List.range 4096).map o).filter S ↔ S i = true := by
    intro o ho i
    rw [List.mem_filter, List.mem_map]
    constructor
    · exact fun h => h.2
    · intro h
      obtain ⟨n, hn, e⟩ := ho i
      exact ⟨⟨n, List.mem_range.mpr hn, e⟩, h⟩
  have nd : ∀ l : List (Fin 4096), l.Pairwise (Before D) → l.Nodup := fun l h =>
    h.imp fun {a b} hab => by rintro rfl; exact before_irrefl D _ hab
  refine List.Perm.eq_of_pairwise (le := Before D) ?_ (pw o hb) (pw o' hb') ?_
  · intro a b _ _ h1 h2
    exact absurd (before_trans D h1 h2) (before_irrefl D a)
  · rw [List.perm_ext_iff_of_nodup (nd _ (pw o hb)) (nd _ (pw o' hb'))]
    intro i
    rw [mem o ho, mem o' ho']

/-- Two orders that agree on the seen points paint the same. -/
theorem paint_order (D α g : Fin 4096 → EReal) (S : Fin 4096 → Bool) (hS : ∀ i, S i = false → α i = 0) (o o' : Nat → Fin 4096)
    (ho : ∀ i, ∃ n, n < 4096 ∧ o n = i) (ho' : ∀ i, ∃ n, n < 4096 ∧ o' n = i)
    (hb : ∀ m n, m < n → n < 4096 → S (o m) = true → S (o n) = true → Before D (o m) (o n))
    (hb' : ∀ m n, m < n → n < 4096 → S (o' m) = true → S (o' n) = true → Before D (o' m) (o' n)) :
    paint (fun m => α (o m)) (fun m => g (o m)) 4096 = paint (fun m => α (o' m)) (fun m => g (o' m)) 4096 := by
  have h := congrArg Prod.snd (foldl_range α g o 4096)
  have h' := congrArg Prod.snd (foldl_range α g o' 4096)
  rw [foldl_filter α g S hS, filter_eq D S o o' ho ho' hb hb', ← foldl_filter α g S hS] at h
  exact h.symm.trans h'

end Cert.Splat

end
-- ==== Proof.RefSort.lean ====
/- The reference's sort: which point comes where in which tile's order. -/
module

public import proofs.«01_k».proof.Proof.RefScene
public import proofs.«01_k».proof.Proof.Order
public import Idealize.ShloMosaic.Lib.SortFacts

@[expose] public section

noncomputable section

namespace Cert.Splat

open Idealize.ShloMosaic

/-- A stable insertion sort of an increasing list leaves no pair out of order, and ties in increasing order. -/
theorem stable_pairs {n : Nat} (R : Fin n → Fin n → Bool) (has : ∀ a b, R a b = true → R b a = false)
    (hnt : ∀ a b c, R a b = false → R b c = false → R a c = false) (l : List (Fin n)) (hl : l.Pairwise (· < ·)) :
    (stableSort R l).Pairwise fun b c => R c b = false ∧ (R b c = true ∨ b < c) := by
  have ins : ∀ (a : Fin n) (l : List (Fin n)), (∀ b ∈ l, a < b) → (l.Pairwise fun b c => R c b = false ∧ (R b c = true ∨ b < c)) →
      (insertBefore R a l).Pairwise fun b c => R c b = false ∧ (R b c = true ∨ b < c) := by
    intro a l
    induction l with
    | nil => intro _ _; exact List.pairwise_singleton _ _
    | cons b l ih =>
      intro ha hp
      rw [List.pairwise_cons] at hp
      unfold insertBefore
      split
      · rename_i h
        refine List.pairwise_cons.mpr ⟨fun c hc => ?_, ih (fun c hc => ha c (List.mem_cons_of_mem _ hc)) hp.2⟩
        rcases List.mem_cons.mp ((perm_insertBefore R a l).mem_iff.mp hc) with rfl | hc'
        · exact ⟨has _ _ h, Or.inl h⟩
        · exact hp.1 c hc'
      · rename_i h
        have hba : R b a = false := by simpa using h
        refine List.pairwise_cons.mpr ⟨fun c hc => ⟨?_, Or.inr (ha c hc)⟩, List.pairwise_cons.mpr hp⟩
        rcases List.mem_cons.mp hc with rfl | hc'
        · exact hba
        · exact hnt _ _ _ (hp.1 c hc').1 hba
  induction l with
  | nil => exact List.Pairwise.nil
  | cons a l ih =>
    rw [List.pairwise_cons] at hl
    unfold stableSort
    exact ins a _ (fun b hb => hl.1 b ((perm_stableSort R l).mem_iff.mp hb)) (ih hl.2)

/-- A stable sort leaves its entries in order, equal ones by number. -/
theorem sortedFrom_stable {n : Nat} (R : Fin n → Fin n → Bool) (has : ∀ a b, R a b = true → R b a = false)
    (hnt : ∀ a b c, R a b = false → R b c = false → R a c = false) (i j : Fin n) (hij : i < j) :
    R (sortedFrom R j) (sortedFrom R i) = false ∧
      (R (sortedFrom R i) (sortedFrom R j) = true ∨ sortedFrom R i < sortedFrom R j) := by
  have hp := List.pairwise_iff_get.mp (stable_pairs R has hnt (List.finRange n) (List.pairwise_lt_finRange n))
  unfold sortedFrom
  exact hp _ _ (show i.val < j.val from hij)

variable (s : Scene)

/-- Whether a point reaches into tile `t`. -/
def seen (t : Nat) (i : Fin 4096) : Bool := decide (Seen (tileX t) (tileY t) (fun r => s.row r.castSucc i))

/-- What the reference sorts by in tile `t`. -/
def key (t : Nat) (i : Fin 4096) : EReal := if seen s t i = true then s.depth i else ⊤

/-- The reference's order in tile `t`. -/
def ord (t : Nat) (n : Nat) : Fin 4096 :=
  sortedFrom (fun k k' => decide (key s t k < key s t k')) ⟨n % 4096, Nat.mod_lt _ (by decide)⟩

/-- Every point comes at some place in a tile's list. -/
theorem ord_surj (t : Nat) (i : Fin 4096) : ∃ n, n < 4096 ∧ ord s t n = i := by
  obtain ⟨n, hn⟩ := sortedFrom_surjective (fun k k' => decide (key s t k < key s t k')) i
  refine ⟨n.val, n.isLt, ?_⟩
  have e : (⟨n.val % 4096, Nat.mod_lt _ (by decide)⟩ : Fin 4096) = n := Fin.ext (Nat.mod_eq_of_lt n.isLt)
  unfold ord
  rw [e]
  exact hn

/-- Points seen in a tile come in the order of depth in its list. -/
theorem ord_before (t : Nat) (m n : Nat) (hmn : m < n) (hn : n < 4096) (hm' : seen s t (ord s t m) = true)
    (hn' : seen s t (ord s t n) = true) : Before s.depth (ord s t m) (ord s t n) := by
  have h := sortedFrom_stable (fun k k' => decide (key s t k < key s t k'))
    (fun a b hab => by simp only [decide_eq_true_eq, decide_eq_false_iff_not] at *; exact not_lt.mpr hab.le)
    (fun a b c hab hbc => by simp only [decide_eq_false_iff_not, not_lt] at *; exact hbc.trans hab)
    ⟨m % 4096, Nat.mod_lt _ (by decide)⟩ ⟨n % 4096, Nat.mod_lt _ (by decide)⟩
    (by simp only [Fin.lt_def]; rw [Nat.mod_eq_of_lt hn, Nat.mod_eq_of_lt (hmn.trans hn)]; exact hmn)
  change (decide (key s t (ord s t n) < key s t (ord s t m)) = false) ∧
    (decide (key s t (ord s t m) < key s t (ord s t n)) = true ∨ ord s t m < ord s t n) at h
  simp only [key, hm', hn', if_true, decide_eq_true_eq, decide_eq_false_iff_not, not_lt] at h
  rcases h.2 with h2 | h2
  · exact Or.inl h2
  · rcases h.1.lt_or_eq with h3 | h3
    · exact Or.inl h3
    · exact Or.inr ⟨h3, h2⟩

end Cert.Splat

namespace Cert.ReferenceIdeal.Value

open Idealize.ShloMosaic Idealize.ShloMosaic.TcCoe Idealize.SL.Sem
open Cert.ReferenceIdeal Cert.ReferenceIdeal.Gen Cert.ReferenceIdeal.Step Cert.Splat

set_option maxRecDepth 16384
set_option maxHeartbeats 2000000

/-- The reference compares two rows by their keys. -/
theorem comparator_eq (l r : EReal × BitVec 32 × BitVec 1) :
    (comparator_f32_i32_i1_d0 (F := Ideal) l r == 1#1) = decide (l.1 < r.1) := by
  have norm : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have hu : FloatOps.cmpf (F := Ideal) (φ := .f32) .une x x = 0#1 := by
      show Ideal.cmp .une x x = 0#1
      simp [Ideal.cmp]
    rw [hu]
    show (if FloatOps.cmpf (F := Ideal) (φ := .f32) .oeq x (FloatOps.ofBits (F := Ideal) .f32 0x00000000#32) = 1#1 then _ else x) = x
    split
    · rename_i h
      change BitVec.ofBool (decide (x = FloatOps.ofBits (F := Ideal) .f32 0x00000000#32)) = 1#1 at h
      cases hd : decide (x = FloatOps.ofBits (F := Ideal) .f32 0x00000000#32) with
      | true => exact (of_decide_eq_true hd).symm
      | false => rw [hd] at h; exact absurd h (by decide)
    · rfl
  unfold comparator_f32_i32_i1_d0
  dsimp only
  rw [norm, norm]
  show (BitVec.ofBool (decide (l.1 < r.1)) == 1#1) = _
  by_cases h : l.1 < r.1 <;> simp [h]

variable (a0 : Vec Ideal S4096x3 .f32) (a1 : Vec Ideal S4096x1 .f32) (a2 : Vec Ideal S4096 .f32) (a3 : Vec Ideal S4096x3 .f32)
  (a4 a5 : Vec Ideal S4x4 .f32)

/-- The sort's key of a point in a tile. -/
theorem v115_apply (i : Fin 4096) (t : Fin 16) : A_main_v115 (F := Ideal) a0 a1 a2 a4 a5 (ix2 i t) = key (sceneOf a0 a1 a2 a3 a4 a5) t.val i := by
  have h := v113_apply a0 a1 a2 a3 a4 a5 i t
  have h' := v34_apply a0 a1 a2 a3 a4 a5 i
  unfold A_main_v115 A_main_call4_v1 A_main_v114
  generalize A_main_v113 (F := Ideal) a0 a1 a2 a4 a5 = x at h
  generalize A_main_v34 (F := Ideal) a0 a1 a2 a4 a5 = y at h'
  pointwise [K_main_call4_v2, K_main_call4_v0, K_main_cst_28, id_eq]
  rw [h, h']
  have htop : Ideal.ofBits .f32 0x7F800000#32 = ⊤ := by simp [Ideal.ofBits, Ideal.ieee]
  rw [htop]
  unfold key seen
  by_cases hs : Seen (tileX t.val) (tileY t.val) fun r => (sceneOf a0 a1 a2 a3 a4 a5).row r.castSucc i
  · rw [decide_eq_true hs]; rfl
  · rw [decide_eq_false hs]; rfl

/-- Along the axis the reference sorts. -/
theorem along_eq (j : Fin 4096) (t : Fin 16) (k : Fin (S4096x16.size ⟨0, Nat.zero_lt_two⟩)) :
    (ix2 j t : S4096x16.Idx).along ⟨0, Nat.zero_lt_two⟩ k = ix2 (show Fin 4096 from k) t := by
  funext a
  unfold Shape.Idx.along
  match a with
  | ⟨0, _⟩ => exact Function.update_self ..
  | ⟨1, h⟩ => exact Function.update_of_ne (fun e => absurd (congrArg Fin.val e) (show ¬ (1 = 0) from Nat.one_ne_zero)) ..

/-- The sort's order of a tile's points. -/
theorem perm_eq (n : Fin 4096) (t : Fin 16) :
    sortedFrom (n := 4096) (fun k k' => comparator_f32_i32_i1_d0 (F := Ideal)
      (A_main_v115 (F := Ideal) a0 a1 a2 a4 a5 (ix2 k t), K_main_v116 (F := Ideal) (ix2 k t), A_main_v113 (F := Ideal) a0 a1 a2 a4 a5 (ix2 k t))
      (A_main_v115 (F := Ideal) a0 a1 a2 a4 a5 (ix2 k' t), K_main_v116 (F := Ideal) (ix2 k' t), A_main_v113 (F := Ideal) a0 a1 a2 a4 a5 (ix2 k' t)) == 1#1) n
      = ord (sceneOf a0 a1 a2 a3 a4 a5) t.val n.val := by
  unfold ord
  have e : (⟨n.val % 4096, Nat.mod_lt _ (by decide)⟩ : Fin 4096) = n := Fin.ext (Nat.mod_eq_of_lt n.isLt)
  rw [e]
  congr 1
  funext k k'
  rw [comparator_eq, v115_apply a0 a1 a2 a3 a4 a5, v115_apply a0 a1 a2 a3 a4 a5]

/-- The sorted indices. -/
theorem v117_1_apply (n : Fin 4096) (t : Fin 16) : A_main_v117_1 (F := Ideal) a0 a1 a2 a4 a5 (ix2 n t)
    = BitVec.ofNat 32 (ord (sceneOf a0 a1 a2 a3 a4 a5) t.val n.val).val := by
  rw [← perm_eq a0 a1 a2 a3 a4 a5 n t]
  unfold A_main_v117_1 Host.sort3
  rw [dif_pos (by decide)]
  dsimp only
  simp only [along_eq]
  pointwise [K_main_v116]

/-- The sorted flags. -/
theorem v117_2_apply (n : Fin 4096) (t : Fin 16) : A_main_v117_2 (F := Ideal) a0 a1 a2 a4 a5 (ix2 n t)
    = BitVec.ofBool (seen (sceneOf a0 a1 a2 a3 a4 a5) t.val (ord (sceneOf a0 a1 a2 a3 a4 a5) t.val n.val)) := by
  rw [← perm_eq a0 a1 a2 a3 a4 a5 n t]
  unfold A_main_v117_2 Host.sort3
  rw [dif_pos (by decide)]
  dsimp only
  simp only [along_eq]
  exact v113_apply a0 a1 a2 a3 a4 a5 _ t

end Cert.ReferenceIdeal.Value

end
-- ==== Proof.RefStep.lean ====
/- One turn of the reference's loop, and what its carried arrays hold after any number of turns. -/
module

public import proofs.«01_k».proof.Proof.RefSort
public import Idealize.ShloMosaic.Lib.DynamicIndex

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Step Cert.Splat

set_option maxRecDepth 16384
set_option maxHeartbeats 2000000

/-- The word of a turn's number. -/
theorem turn_word (j : Nat) (hj : j < 4096) : (BitVec.ofNat 32 j).toInt = (j : Int) := by
  rw [BitVec.toInt_eq_toNat_of_lt (by simp only [BitVec.toNat_ofNat]; omega), BitVec.toNat_ofNat, Nat.mod_eq_of_lt (by omega)]

/-- A gather of one value per tile, at the indices of the tiles. -/
theorem gather_apply (x : Vec Ideal S4096 .f32) (idx : IVec S16x1 32) (t : Fin 16) (i : Fin 4096) (h : idx (ix2 t 0) = BitVec.ofNat 32 i.val) :
    Host.gather gather_S4096_S16x1_S16_n_0_n_n_0_1_1 x idx (ix1 t) = x (ix1 i) := by
  unfold Host.gather
  congr 1
  funext a
  obtain rfl : a = 0 := Subsingleton.elim _ _
  refine Fin.ext ?_
  show (gather_S4096_S16x1_S16_n_0_n_n_0_1_1).start _ _ _ + _ + _ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S4096_S16x1_S16_n_0_n_n_0_1_1).startIndexMap from List.mem_singleton.mpr rfl)]
  have hsi : (gather_S4096_S16x1_S16_n_0_n_n_0_1_1).siIdx (ix1 t) ⟨List.idxOf (0 : Fin 1) (gather_S4096_S16x1_S16_n_0_n_n_0_1_1).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, h, turn_word i.val i.isLt]
  show min (i.val : Int).toNat (4096 - 1) = i.val
  have := i.isLt
  omega

variable (j : Fin 4096) (s : State Ideal)

/-- A turn reads its row of the sorted indices. -/
theorem b2_apply (t : Fin 16) : b2 j.val s (ix1 t) = s.main_v122_0 (ix2 j t) := by
  pointwise [b2, b1, b0]
  have e0 := Host.clampedStart_of_le (s := S4096x16) (t := S1x16) rfl (fun k => BitVec.toInt
    ((![constantI S_ 32 (BitVec.ofNat 32 j.val), constantI S_ 32 0#32] : Fin 2 → IVec S_ 32) k (Shape.Idx.first h_S_))) 0 j.val
    (turn_word j.val j.isLt) (show j.val + 1 ≤ 4096 from j.isLt)
  have e1 := Host.clampedStart_of_le (s := S4096x16) (t := S1x16) rfl (fun k => BitVec.toInt
    ((![constantI S_ 32 (BitVec.ofNat 32 j.val), constantI S_ 32 0#32] : Fin 2 → IVec S_ 32) k (Shape.Idx.first h_S_))) 1 0
    rfl (Nat.le_of_eq rfl)
  exact congrArg s.main_v122_0 (congrArg₂ ix2 (Fin.ext e0) (Fin.ext ((congrArg (· + t.val) e1).trans (Nat.zero_add _))))

/-- A turn reads its row of the sorted marks. -/
theorem b5_apply (t : Fin 16) : b5 j.val s (ix1 t) = s.main_v122_1 (ix2 j t) := by
  pointwise [b5, b4, b3]
  have e0 := Host.clampedStart_of_le (s := S4096x16) (t := S1x16) rfl (fun k => BitVec.toInt
    ((![constantI S_ 32 (BitVec.ofNat 32 j.val), constantI S_ 32 0#32] : Fin 2 → IVec S_ 32) k (Shape.Idx.first h_S_))) 0 j.val
    (turn_word j.val j.isLt) (show j.val + 1 ≤ 4096 from j.isLt)
  have e1 := Host.clampedStart_of_le (s := S4096x16) (t := S1x16) rfl (fun k => BitVec.toInt
    ((![constantI S_ 32 (BitVec.ofNat 32 j.val), constantI S_ 32 0#32] : Fin 2 → IVec S_ 32) k (Shape.Idx.first h_S_))) 1 0
    rfl (Nat.le_of_eq rfl)
  exact congrArg s.main_v122_1 (congrArg₂ ix2 (Fin.ext e0) (Fin.ext ((congrArg (· + t.val) e1).trans (Nat.zero_add _))))

variable (o : Fin 16 → Fin 4096) (z : Fin 16 → Bool)
  (ho : ∀ t, s.main_v122_0 (ix2 j t) = BitVec.ofNat 32 (o t).val) (hz : ∀ t, s.main_v122_1 (ix2 j t) = BitVec.ofBool (z t))

/-- The opacity the reference gives the point with the values `mx`, `my`, `s2`, `op` at the pixel `(x, y)`. -/
def refAlpha (x y : EReal) (z : Bool) (mx my s2 op : EReal) : EReal :=
  min (if z = true then Ideal.exp (Ideal.div (cNegHalf * ((x - mx) * (x - mx) + (y - my) * (y - my))) s2) * op else 0) cMost

include ho hz in
theorem b40_apply (t : Fin 16) (p : Fin 4096) : b40 j.val s (ix2 t p)
    = refAlpha (pixX t.val p.val) (pixY t.val p.val) (z t) (s.main_v122_2 (ix1 (o t))) (s.main_v122_4 (ix1 (o t)))
      (s.main_v122_6 (ix1 (o t))) (s.main_v122_7 (ix1 (o t))) := by
  have h2 : ∀ t, b2 j.val s (ix1 t) = BitVec.ofNat 32 (o t).val := fun t => (b2_apply j s t).trans (ho t)
  have h5 : b5 j.val s (ix1 t) = BitVec.ofBool (z t) := (b5_apply j s t).trans (hz t)
  have hx := v78_apply t p
  have hy := v86_apply t p
  have g7 : b7 j.val s (ix1 t) = s.main_v122_2 (ix1 (o t)) := gather_apply _ _ _ _ (by pointwise [b6]; exact h2 t)
  have g12 : b12 j.val s (ix1 t) = s.main_v122_4 (ix1 (o t)) := gather_apply _ _ _ _ (by pointwise [b11]; exact h2 t)
  have g23 : b23 j.val s (ix1 t) = s.main_v122_6 (ix1 (o t)) := gather_apply _ _ _ _ (by pointwise [b22]; exact h2 t)
  have g30 : b30 j.val s (ix1 t) = s.main_v122_7 (ix1 (o t)) := gather_apply _ _ _ _ (by pointwise [b29]; exact h2 t)
  unfold b40 b39 b38 b37 b36 b35 b34 b33 b32 b31 b28 b27 b26 b25 b24 b21 b20 b19 b18 b17 b16 b15 b14 b13 b10 b9 b8
  generalize b7 j.val s = y7 at g7
  generalize b12 j.val s = y12 at g12
  generalize b23 j.val s = y23 at g23
  generalize b30 j.val s = y30 at g30
  generalize b5 j.val s = y5 at h5
  generalize K_main_v78 (F := Ideal) = y78 at hx
  generalize K_main_v86 (F := Ideal) = y86 at hy
  pointwise
  rw [g7, g12, g23, g30, h5, hx, hy]
  cases z t <;> rfl

include ho hz in
theorem b48_apply (t : Fin 16) : b48 j.val s (ix2 t 0) = if z t = true then s.main_v122_8 (ix1 (o t)) else 0 := by
  have h2 : ∀ t, b2 j.val s (ix1 t) = BitVec.ofNat 32 (o t).val := fun t => (b2_apply j s t).trans (ho t)
  have h5 : b5 j.val s (ix1 t) = BitVec.ofBool (z t) := (b5_apply j s t).trans (hz t)
  have g43 : b43 j.val s (ix1 t) = s.main_v122_8 (ix1 (o t)) := gather_apply _ _ _ _ (by pointwise [b42]; exact h2 t)
  unfold b48 b47 b46 b45 b44 b41
  generalize b43 j.val s = y43 at g43
  generalize b5 j.val s = y5 at h5
  pointwise
  rw [g43, h5]
  cases z t <;> rfl

/-- A turn leaves the light that its point lets through. -/
theorem b53_apply (t : Fin 16) (p : Fin 4096) : b53 j.val s (ix2 t p) = s.main_v122_11 (ix2 t p) * (1 - b40 j.val s (ix2 t p)) := by
  unfold b53 b52 b51 b50
  generalize b40 j.val s = y
  pointwise

/-- A point's weight is the light left times its opacity. -/
theorem b49_apply (t : Fin 16) (p : Fin 4096) : b49 j.val s (ix2 t p) = s.main_v122_11 (ix2 t p) * b40 j.val s (ix2 t p) := by
  unfold b49
  generalize b40 j.val s = y
  pointwise

/-- A turn adds the weight. -/
theorem b54_apply (t : Fin 16) (p : Fin 4096) : b54 j.val s (ix2 t p) = s.main_v122_12 (ix2 t p) + b49 j.val s (ix2 t p) := by
  unfold b54
  generalize b49 j.val s = y
  pointwise

/-- A turn adds the weighted depth. -/
theorem b57_apply (t : Fin 16) (p : Fin 4096) : b57 j.val s (ix2 t p) = s.main_v122_13 (ix2 t p) + b49 j.val s (ix2 t p) * b48 j.val s (ix2 t 0) := by
  unfold b57 b56 b55
  generalize b49 j.val s = y
  generalize b48 j.val s = y'
  pointwise

include ho in
theorem b65_apply (t : Fin 16) (p : Fin 4096) :
    b65 j.val s (ix2 t p) = s.main_v122_14 (ix2 t p) + b49 j.val s (ix2 t p) * s.main_v122_9 (ix2 (o t) 0) := by
  have h2 : ∀ t, b2 j.val s (ix1 t) = BitVec.ofNat 32 (o t).val := fun t => (b2_apply j s t).trans (ho t)
  have g : b61 j.val s (ix1 t) = s.main_v122_9 (ix2 (o t) 0) :=
    (gather_apply _ _ _ (o t) (by pointwise [b60]; exact h2 t)).trans (by pointwise [b59, b58])
  unfold b65 b64 b63 b62
  generalize b49 j.val s = y
  generalize b61 j.val s = y' at g
  pointwise
  rw [g]

include ho in
theorem b73_apply (t : Fin 16) (p : Fin 4096) :
    b73 j.val s (ix2 t p) = s.main_v122_15 (ix2 t p) + b49 j.val s (ix2 t p) * s.main_v122_9 (ix2 (o t) 1) := by
  have h2 : ∀ t, b2 j.val s (ix1 t) = BitVec.ofNat 32 (o t).val := fun t => (b2_apply j s t).trans (ho t)
  have g : b69 j.val s (ix1 t) = s.main_v122_9 (ix2 (o t) 1) :=
    (gather_apply _ _ _ (o t) (by pointwise [b68]; exact h2 t)).trans (by pointwise [b67, b66])
  unfold b73 b72 b71 b70
  generalize b49 j.val s = y
  generalize b69 j.val s = y' at g
  pointwise
  rw [g]

include ho in
theorem b81_apply (t : Fin 16) (p : Fin 4096) :
    b81 j.val s (ix2 t p) = s.main_v122_16 (ix2 t p) + b49 j.val s (ix2 t p) * s.main_v122_9 (ix2 (o t) 2) := by
  have h2 : ∀ t, b2 j.val s (ix1 t) = BitVec.ofNat 32 (o t).val := fun t => (b2_apply j s t).trans (ho t)
  have g : b77 j.val s (ix1 t) = s.main_v122_9 (ix2 (o t) 2) :=
    (gather_apply _ _ _ (o t) (by pointwise [b76]; exact h2 t)).trans (by pointwise [b75, b74])
  unfold b81 b80 b79 b78
  generalize b49 j.val s = y
  generalize b77 j.val s = y' at g
  pointwise
  rw [g]

/-- The opacity the reference gives point `i` at pixel `p` of tile `t`. -/
def refA (sc : Scene) (t p : Nat) (i : Fin 4096) : EReal :=
  refAlpha (pixX t p) (pixY t p) (seen sc t i) (sc.pix i 0) (sc.pix i 1) (sc.size i * sc.size i) (sc.opacity i)

/-- The depth the reference adds for point `i` in tile `t`. -/
def refD (sc : Scene) (t : Nat) (i : Fin 4096) : EReal := if seen sc t i = true then sc.depth i else 0

/-- What the loop's arrays hold before turn `n`. -/
structure Holds (a0 : Vec Ideal S4096x3 .f32) (a1 : Vec Ideal S4096x1 .f32) (a2 : Vec Ideal S4096 .f32) (a3 : Vec Ideal S4096x3 .f32)
    (a4 a5 : Vec Ideal S4x4 .f32) (n : Nat) (s : State Ideal) : Prop where
  idx : s.main_v122_0 = A_main_v117_1 (F := Ideal) a0 a1 a2 a4 a5
  flag : s.main_v122_1 = A_main_v117_2 (F := Ideal) a0 a1 a2 a4 a5
  mx : s.main_v122_2 = A_main_v21 (F := Ideal) a0 a1 a2 a4 a5
  my : s.main_v122_4 = A_main_v32 (F := Ideal) a0 a1 a2 a4 a5
  sq : s.main_v122_6 = A_main_v118 (F := Ideal) a0 a1 a2 a4 a5
  op : s.main_v122_7 = A_main_v119 (F := Ideal) a0 a1 a2 a4 a5
  dp : s.main_v122_8 = A_main_v34 (F := Ideal) a0 a1 a2 a4 a5
  ft : s.main_v122_9 = a3
  light : ∀ (t : Fin 16) (p : Fin 4096), s.main_v122_11 (ix2 t p)
    = trans (fun m => refA (sceneOf a0 a1 a2 a3 a4 a5) t.val p.val (ord (sceneOf a0 a1 a2 a3 a4 a5) t.val m)) n
  acc : ∀ (t : Fin 16) (p : Fin 4096), s.main_v122_12 (ix2 t p)
    = paint (fun m => refA (sceneOf a0 a1 a2 a3 a4 a5) t.val p.val (ord (sceneOf a0 a1 a2 a3 a4 a5) t.val m)) (fun _ => 1) n
  dep : ∀ (t : Fin 16) (p : Fin 4096), s.main_v122_13 (ix2 t p)
    = paint (fun m => refA (sceneOf a0 a1 a2 a3 a4 a5) t.val p.val (ord (sceneOf a0 a1 a2 a3 a4 a5) t.val m))
        (fun m => refD (sceneOf a0 a1 a2 a3 a4 a5) t.val (ord (sceneOf a0 a1 a2 a3 a4 a5) t.val m)) n
  red : ∀ (t : Fin 16) (p : Fin 4096), s.main_v122_14 (ix2 t p)
    = paint (fun m => refA (sceneOf a0 a1 a2 a3 a4 a5) t.val p.val (ord (sceneOf a0 a1 a2 a3 a4 a5) t.val m))
        (fun m => a3 (ix2 (ord (sceneOf a0 a1 a2 a3 a4 a5) t.val m) 0)) n
  green : ∀ (t : Fin 16) (p : Fin 4096), s.main_v122_15 (ix2 t p)
    = paint (fun m => refA (sceneOf a0 a1 a2 a3 a4 a5) t.val p.val (ord (sceneOf a0 a1 a2 a3 a4 a5) t.val m))
        (fun m => a3 (ix2 (ord (sceneOf a0 a1 a2 a3 a4 a5) t.val m) 1)) n
  blue : ∀ (t : Fin 16) (p : Fin 4096), s.main_v122_16 (ix2 t p)
    = paint (fun m => refA (sceneOf a0 a1 a2 a3 a4 a5) t.val p.val (ord (sceneOf a0 a1 a2 a3 a4 a5) t.val m))
        (fun m => a3 (ix2 (ord (sceneOf a0 a1 a2 a3 a4 a5) t.val m) 2)) n

variable (a0 : Vec Ideal S4096x3 .f32) (a1 : Vec Ideal S4096x1 .f32) (a2 : Vec Ideal S4096 .f32) (a3 : Vec Ideal S4096x3 .f32)
  (a4 a5 : Vec Ideal S4x4 .f32)

/-- The loop's arrays before its first turn. -/
theorem holds_init : Holds a0 a1 a2 a3 a4 a5 0 (init a3 a0 a1 a2 a4 a5) where
  idx := rfl
  flag := rfl
  mx := rfl
  my := rfl
  sq := rfl
  op := rfl
  dp := rfl
  ft := rfl
  light := fun t p => by
    rw [trans_zero]
    show K_main_v121 (F := Ideal) (ix2 t p) = 1
    pointwise [K_main_v121, K_main_cst_30]
  acc := fun t p => by
    rw [paint_zero]
    show K_main_v120 (F := Ideal) (ix2 t p) = 0
    pointwise [K_main_v120, K_main_cst_29]
  dep := fun t p => by
    rw [paint_zero]
    show K_main_v120 (F := Ideal) (ix2 t p) = 0
    pointwise [K_main_v120, K_main_cst_29]
  red := fun t p => by
    rw [paint_zero]
    show K_main_v120 (F := Ideal) (ix2 t p) = 0
    pointwise [K_main_v120, K_main_cst_29]
  green := fun t p => by
    rw [paint_zero]
    show K_main_v120 (F := Ideal) (ix2 t p) = 0
    pointwise [K_main_v120, K_main_cst_29]
  blue := fun t p => by
    rw [paint_zero]
    show K_main_v120 (F := Ideal) (ix2 t p) = 0
    pointwise [K_main_v120, K_main_cst_29]

/-- A turn takes what the arrays hold before it to what they hold after it. -/
theorem holds_step (j : Fin 4096) (s : State Ideal) (H : Holds a0 a1 a2 a3 a4 a5 j.val s) :
    Holds a0 a1 a2 a3 a4 a5 (j.val + 1) (step j.val s) := by
  have ho : ∀ t : Fin 16, s.main_v122_0 (ix2 j t) = BitVec.ofNat 32 (ord (sceneOf a0 a1 a2 a3 a4 a5) t.val j.val).val := fun t =>
    (congrFun H.idx (ix2 j t)).trans (v117_1_apply a0 a1 a2 a3 a4 a5 j t)
  have hz : ∀ t : Fin 16, s.main_v122_1 (ix2 j t)
      = BitVec.ofBool (seen (sceneOf a0 a1 a2 a3 a4 a5) t.val (ord (sceneOf a0 a1 a2 a3 a4 a5) t.val j.val)) := fun t =>
    (congrFun H.flag (ix2 j t)).trans (v117_2_apply a0 a1 a2 a3 a4 a5 j t)
  have ha : ∀ (t : Fin 16) (p : Fin 4096), b40 j.val s (ix2 t p)
      = refA (sceneOf a0 a1 a2 a3 a4 a5) t.val p.val (ord (sceneOf a0 a1 a2 a3 a4 a5) t.val j.val) := fun t p => by
    rw [b40_apply j s _ _ ho hz t p, H.mx, H.my, H.sq, H.op, v21_apply a0 a1 a2 a3 a4 a5, v32_apply a0 a1 a2 a3 a4 a5,
      v118_apply a0 a1 a2 a3 a4 a5, v119_apply a0 a1 a2 a3 a4 a5]
    rfl
  have hd : ∀ (t : Fin 16), b48 j.val s (ix2 t 0) = refD (sceneOf a0 a1 a2 a3 a4 a5) t.val (ord (sceneOf a0 a1 a2 a3 a4 a5) t.val j.val) :=
    fun t => by
      rw [b48_apply j s _ _ ho hz t, H.dp, v34_apply a0 a1 a2 a3 a4 a5]
      rfl
  exact {
    idx := H.idx
    flag := H.flag
    mx := H.mx
    my := H.my
    sq := H.sq
    op := H.op
    dp := H.dp
    ft := H.ft
    light := fun t p => by
      rw [step_main_v122_11, b53_apply, ha, H.light, trans_succ]
    acc := fun t p => by
      rw [step_main_v122_12, b54_apply, b49_apply, ha, H.light, H.acc, paint_succ, mul_one]
    dep := fun t p => by
      rw [step_main_v122_13, b57_apply, b49_apply, ha, hd, H.light, H.dep, paint_succ]
    red := fun t p => by
      rw [step_main_v122_14, b65_apply j s _ ho, b49_apply, ha, H.light, H.red, paint_succ, H.ft]
    green := fun t p => by
      rw [step_main_v122_15, b73_apply j s _ ho, b49_apply, ha, H.light, H.green, paint_succ, H.ft]
    blue := fun t p => by
      rw [step_main_v122_16, b81_apply j s _ ho, b49_apply, ha, H.light, H.blue, paint_succ, H.ft] }

/-- What the loop's arrays hold after all its turns. -/
theorem holds_all (it : Nat → State Ideal) (h0 : it 0 = init a3 a0 a1 a2 a4 a5) (hs : ∀ n, it (n + 1) = step n (it n)) :
    ∀ n ≤ 4096, Holds a0 a1 a2 a3 a4 a5 n (it n)
  | 0, _ => h0 ▸ holds_init a0 a1 a2 a3 a4 a5
  | n + 1, h => by
    rw [hs]
    exact holds_step a0 a1 a2 a3 a4 a5 ⟨n, h⟩ _ (holds_all it h0 hs n (Nat.le_of_succ_le h))

end Cert.ReferenceIdeal.Value

end
-- ==== Proof.Final.lean ====
/- The two ways of drawing come to the same picture: the kernel draws all points of a tile in the order of depth, the
   reference only those that reach into the tile first, in the same order. -/
module

public import proofs.«01_k».proof.Proof.KValue
public import proofs.«01_k».proof.Proof.RefStep
public import proofs.«01_k».proof.Proof.Order

@[expose] public section

noncomputable section

namespace Cert.Splat

open Idealize.ShloMosaic Cert.KernelIdeal.Value Cert.ReferenceIdeal.Value

/-- None of the scene's opacities and colours is plus infinity. -/
structure Scene.Below (s : Scene) : Prop where
  opacity : ∀ i, s.opacity i ≠ ⊤
  feat : ∀ i k, s.feat i k ≠ ⊤

/-- The largest pixel coordinate is a number at or above zero. -/
theorem cLast_ne : cLast ≠ ⊤ ∧ 0 ≤ cLast := by
  have h : cLast = ((255 : ℝ) : EReal) := by
    simp [cLast, Ideal.ofBits, Ideal.ieee]
    rw [← EReal.coe_mul]
    norm_num
  rw [h]
  exact ⟨EReal.coe_ne_top _, EReal.coe_nonneg.mpr (by norm_num)⟩

/-- The largest opacity is not below zero. -/
theorem cMost_nonneg : 0 ≤ cMost := by
  simp [cMost, Ideal.ofBits, Ideal.ieee]
  try norm_cast
  try positivity

/-- A number clamped to the screen is put together again from its three roundings. -/
theorem again_clamped (x : EReal) : again (min cLast (max 0 x)) = min cLast (max 0 x) := by
  refine again_of_finite (fun h => cLast_ne.1 (top_le_iff.mp (h ▸ min_le_left _ _))) fun h => ?_
  have h0 : (0 : EReal) ≤ min cLast (max 0 x) := le_min cLast_ne.2 (le_max_left _ _)
  rw [h] at h0
  exact absurd h0 (by simp)

/-- So is every number but plus infinity. -/
theorem again_below {x : EReal} (h : x ≠ ⊤) : again x = x := by
  induction x with
  | bot => exact again_bot
  | coe r => exact again_coe r
  | top => exact absurd rfl h

/-- Dividing by a number put together again is dividing by the number: both infinities divide to nothing. -/
theorem div_again (c y : EReal) : Ideal.div c (again y) = Ideal.div c y := by
  induction y with
  | bot => rw [again_bot]
  | coe r => rw [again_coe]
  | top => rw [again_top]; simp [Ideal.div]

/-- The square of the distance to a number put together again. -/
theorem square_again (x : ℝ) (y : EReal) : ((x : EReal) - again y) * (x - again y) = (x - y) * (x - y) := by
  induction y with
  | bot => rw [again_bot]
  | coe r => rw [again_coe]
  | top => rw [again_top]; simp

/-- A pixel's column is a real number. -/
theorem pixX_real (t p : Nat) : ∃ r : ℝ, pixX t p = r := ⟨_, (EReal.coe_add _ _).symm⟩
/-- A pixel's row is a real number. -/
theorem pixY_real (t p : Nat) : ∃ r : ℝ, pixY t p = r := ⟨_, (EReal.coe_add _ _).symm⟩

variable (s : Scene)

/-- A point without size reaches into no tile. -/
theorem sized {u v : EReal} {i : Fin 4096} (h : Seen u v (fun r => s.row r.castSucc i)) : s.size i * s.size i ≠ 0 := by
  intro h0
  have hz : s.size i = 0 := by simpa using h0
  have hr : s.radius i = 0 := by unfold Scene.radius; rw [hz, zero_mul]
  have hlt : s.lo i 0 < s.hi i 0 := lt_of_le_of_lt (le_max_left _ _) (lt_of_lt_of_le h.1 (min_le_left _ _))
  unfold Scene.lo Scene.hi at hlt
  rw [hr, sub_zero, add_zero] at hlt
  exact lt_irrefl _ hlt

/-- The kernel gives a point the opacity that the reference gives it. -/
theorem alpha_eq (H : s.Below) (t p n : Nat) : al (rowN s) t p n = refA s t p (pickN s.depth n) := by
  unfold al alphaOf refA refAlpha
  set i := pickN s.depth n with hi
  have h0 : rowN s 0 n = again (s.pix i 0) := rfl
  have h1 : rowN s 1 n = again (s.pix i 1) := rfl
  have h2 : rowN s 2 n = again (s.size i * s.size i) := rfl
  have h3 : rowN s 3 n = s.opacity i := again_below (H.opacity i)
  have h4 : rowN s 4 n = s.lo i 0 := again_clamped _
  have h5 : rowN s 5 n = s.lo i 1 := again_clamped _
  have h6 : rowN s 6 n = s.hi i 0 := again_clamped _
  have h7 : rowN s 7 n = s.hi i 1 := again_clamped _
  have hS : Seen (tileX t) (tileY t) (fun r => rowN s r n) ↔ Seen (tileX t) (tileY t) (fun r => s.row r.castSucc i) := by
    unfold Seen
    beta_reduce
    rw [h4, h5, h6, h7]
    exact Iff.rfl
  refine congrArg (min · cMost) ?_
  by_cases h : Seen (tileX t) (tileY t) (fun r => s.row r.castSucc i)
  · rw [if_pos (hS.mpr h), if_pos (show seen s t i = true from decide_eq_true h)]
    obtain ⟨x, hx⟩ := pixX_real t p
    obtain ⟨y, hy⟩ := pixY_real t p
    beta_reduce
    rw [h0, h1, h2, h3, hx, hy, square_again, square_again, div_again]
    have hs := sized s h
    unfold Ideal.div
    rw [if_neg hs, if_neg hs, mul_left_comm, mul_assoc]
  · rw [if_neg (fun h' => h (hS.mp h')), if_neg (by simp [seen, h])]

/-- A point that does not reach into the tile has no opacity there. -/
theorem refA_unseen (t p : Nat) (i : Fin 4096) (h : seen s t i = false) : refA s t p i = 0 := by
  unfold refA refAlpha
  rw [h, if_neg Bool.false_ne_true, min_eq_left cMost_nonneg]

/-- Every point comes at some place in the order of depth. -/
theorem pickN_surj (D : Fin 4096 → EReal) (i : Fin 4096) : ∃ n, n < 4096 ∧ pickN D n = i := by
  have h : pick D (place D i) = i := (place D).symm_apply_apply i
  exact ⟨(place D i).val, (place D i).isLt, (pickN_val D (place D i)).trans h⟩

/-- The order of depth puts a nearer point first. -/
theorem pickN_before (D : Fin 4096 → EReal) (m n : Nat) (h : m < n) (hn : n < 4096) : Before D (pickN D m) (pickN D n) := by
  have h1 := pickN_val D ⟨m, h.trans hn⟩
  have h2 := pickN_val D ⟨n, hn⟩
  dsimp only at h1 h2
  rw [h1, h2]
  exact before_pick D h

/-- The kernel's sum of any values `g` of the points is the reference's. -/
theorem paint_eq (H : s.Below) (t p : Nat) (g : Fin 4096 → EReal) (B : Nat → EReal) (hB : ∀ n, B n = g (pickN s.depth n)) :
    paint (al (rowN s) t p) B 4096 = paint (fun m => refA s t p (ord s t m)) (fun m => g (ord s t m)) 4096 := by
  rw [show al (rowN s) t p = fun m => refA s t p (pickN s.depth m) from funext fun m => alpha_eq s H t p m,
    show B = fun m => g (pickN s.depth m) from funext hB]
  exact paint_order s.depth (refA s t p) g (seen s t) (refA_unseen s t p) _ _ (pickN_surj s.depth) (ord_surj s t)
    (fun m n h hn _ _ => pickN_before s.depth m n h hn) (fun m n h hn h1 h2 => ord_before s t m n h hn h1 h2)

/-- A point that reaches into a tile is not infinitely far away: at that distance its size would be zero. -/
theorem depth_below {u v : EReal} {i : Fin 4096} (h : Seen u v (fun r => s.row r.castSucc i)) : s.depth i ≠ ⊤ := by
  intro hd
  refine sized s h ?_
  unfold Scene.size
  rw [hd]
  simp [Ideal.div]

/-- The kernel's colours before the clamp. -/
theorem colours_eq (H : s.Below) (t p : Nat) (k : Fin 3) :
    paint (al (rowN s) t p) (colN s (k.castLE (by decide))) 4096
      = paint (fun m => refA s t p (ord s t m)) (fun m => s.feat (ord s t m) k) 4096 := by
  refine paint_eq s H t p (fun i => s.feat i k) _ fun n => ?_
  unfold colN
  have h : colOf (s.row 8) s.feat (pickN (s.row 8) n) (k.castLE (by decide)) = s.feat (pickN s.depth n) k := by
    unfold colOf
    rw [dif_pos (show (k.castLE (by decide : 3 ≤ 8)).val < 3 from k.isLt)]
    rfl
  rw [h]
  exact again_below (H.feat _ _)

/-- The kernel's depths. -/
theorem depths_eq (H : s.Below) (t p : Nat) :
    paint (al (rowN s) t p) (colN s 3) 4096
      = paint (fun m => refA s t p (ord s t m)) (fun m => refD s t (ord s t m)) 4096 := by
  refine (paint_eq s H t p (fun i => again (s.depth i)) _ fun n => rfl).trans ?_
  unfold paint
  refine Finset.sum_congr rfl fun m _ => ?_
  unfold refD
  beta_reduce
  by_cases h : seen s t (ord s t m) = true
  · rw [if_pos h, again_below (depth_below s (of_decide_eq_true h))]
  · rw [refA_unseen s t p _ (by simpa using h), mul_zero, zero_mul, zero_mul]

/-- The kernel's opacities. -/
theorem opacities_eq (H : s.Below) (t p : Nat) :
    paint (al (rowN s) t p) (colN s 4) 4096 = paint (fun m => refA s t p (ord s t m)) (fun _ => 1) 4096 :=
  paint_eq s H t p (fun _ => 1) _ fun n => (again_below (EReal.coe_ne_top 1) : again 1 = 1)

end Cert.Splat

end
-- ==== Proof.Entries.lean ====
/- What the precondition says of the arrays: no entry it names is plus infinity. -/
module

public import proofs.«01_k».proof.Pre_below_infinity
public import proofs.«01_k».proof.Proof.Final
public import Idealize.ShloMosaic.PureOps.Ideal

@[expose] public section

noncomputable section

namespace Cert.Splat

open Idealize.ShloMosaic

/-- The shapes of the precondition fit. -/
theorem below_infinity_facts : Cert.Pre_below_infinity.Facts :=
  ⟨by decide, by decide⟩

/-- The pattern of the float infinity is plus infinity. -/
theorem infinity_word : Ideal.ofBits .f32 0x7F800000#32 = ⊤ := by simp [Ideal.ofBits, Ideal.ieee]

/-- An entry below infinity is not infinity. -/
theorem ne_top_of_lt (x : EReal) (h : BitVec.ofBool (decide (x < Ideal.ofBits .f32 0x7F800000#32)) = 1#1) : x ≠ ⊤ := by
  rw [infinity_word] at h
  rintro rfl
  rw [decide_eq_false (lt_irrefl _)] at h
  exact absurd h (by decide)

variable (a0 : Vec Ideal ⟨2, ![4096, 3]⟩ .f32) (a1 : Vec Ideal ⟨2, ![4096, 1]⟩ .f32) (a2 : Vec Ideal ⟨1, ![4096]⟩ .f32)
  (a3 : Vec Ideal ⟨2, ![4096, 3]⟩ .f32) (a4 a5 : Vec Ideal ⟨2, ![4, 4]⟩ .f32)

/-- A scene of which the precondition holds has no opacity and no colour at plus infinity. -/
theorem scene_below [Cert.Pre_below_infinity.Facts]
    (h : (Cert.Pre_below_infinity.fn (F := Ideal) a0 a1 a2 a3 a4 a5).1 = (fun _ => 1#1)
      ∧ (Cert.Pre_below_infinity.fn (F := Ideal) a0 a1 a2 a3 a4 a5).2 = (fun _ => 1#1)) :
    (sceneOf a0 a1 a2 a3 a4 a5).Below where
  opacity := fun i => ne_top_of_lt _ (congrFun h.1 (ix2 i 0))
  feat := fun i k => ne_top_of_lt _ (congrFun h.2 (ix2 i k))

end Cert.Splat

end
-- ==== Proof.RefOut.lean ====
/- The reference's four results, entry by entry. -/
module

public import proofs.«01_k».proof.Proof.RefStep

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Step Cert.Splat

set_option maxRecDepth 16384
set_option maxHeartbeats 2000000

/-- The tile of the pixel in row `y` and column `x`, and its place in the tile. -/
def tileOf (y x : Fin 256) : Fin 16 := ⟨y.val / 64 * 4 + x.val / 64, by omega⟩
/-- The place in its tile of the pixel in row `y` and column `x`. -/
def placeOf (y x : Fin 256) : Fin 4096 := ⟨y.val % 64 * 64 + x.val % 64, by omega⟩

variable (s : State Ideal)

/-- The second result is the sum of depths at the pixel. -/
theorem out140 (y x : Fin 256) : R_main_v140 s (ix3 y x 0) = s.main_v122_13 (ix2 (tileOf y x) (placeOf y x)) := by
  unfold R_main_v140
  generalize s.main_v122_13 = v
  pointwise
  rfl

/-- The third result is the sum of weights at the pixel. -/
theorem out143 (y x : Fin 256) : R_main_v143 s (ix3 y x 0) = s.main_v122_12 (ix2 (tileOf y x) (placeOf y x)) := by
  unfold R_main_v143
  generalize s.main_v122_12 = v
  pointwise
  rfl

/-- The colours of a pixel before the clamp. -/
def colour (k : Fin 3) (t : Fin 16) (p : Fin 4096) : EReal :=
  match k with
  | 0 => s.main_v122_14 (ix2 t p)
  | 1 => s.main_v122_15 (ix2 t p)
  | 2 => s.main_v122_16 (ix2 t p)

/-- The first result is the pixel's colour over a white ground, clamped. -/
theorem out137 (y x : Fin 256) (k : Fin 3) : R_main_v137 s (ix3 y x k)
    = min 1 (max 0 (colour s k (tileOf y x) (placeOf y x) + (1 - s.main_v122_12 (ix2 (tileOf y x) (placeOf y x))))) := by
  unfold R_main_v137 colour
  generalize s.main_v122_12 = v
  generalize s.main_v122_14 = v0
  generalize s.main_v122_15 = v1
  generalize s.main_v122_16 = v2
  match k with
  | 0 =>
    pointwise [id_eq]
    rfl
  | 1 =>
    pointwise [id_eq]
    rfl
  | 2 =>
    pointwise [id_eq]
    rfl

variable (a0 : Vec Ideal S4096x3 .f32) (a1 : Vec Ideal S4096x1 .f32) (a2 : Vec Ideal S4096 .f32) (a3 : Vec Ideal S4096x3 .f32)
  (a4 a5 : Vec Ideal S4x4 .f32)

/-- The fourth result is the radius. -/
theorem out159 (i : Fin 4096) : R_main_v159 s a0 a2 a4 (ix1 i) = (sceneOf a0 a1 a2 a3 a4 a5).radius i := by
  unfold R_main_v159
  pointwise
  rw [Fin.sum_univ_three]
  rfl

end Cert.ReferenceIdeal.Value

end
-- ==== Proof.KRun.lean ====
/- The kernel's run: what each result array holds at the end, in terms of the host operations and the launches. -/
module

public import proofs.«01_k».proof.Proof.Gen.KernelIdeal.Frame

@[expose] public section

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

set_option maxRecDepth 16384

variable {F : FTy → Type} [FloatOps F]

variable (m : (ℓ : Loc nD τ sig) → Buf (Elt F) ℓ) (ρ : Dev nD → PrngReg)

set_option backward.isDefEq.respectTransparency.types false in
/-- Every weakly fair run of the kernel terminates with its four result arrays at the values the last host operations
    leave, and its argument arrays as launched. -/
theorem run_results : θ_run defs (onTc (τ := τ) (main (F := F))) ⟨m, fun _ => 0, ρ⟩ (fun r => ∀ c : Dev nD,
      r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_v0_3) = W6 m ρ c (Proc.devRef .tc main_v0_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => fun c =>
      ⟨h c _ (mem_uc main_v0_0 (by decide)),
       h c _ (mem_uc main_v0_1 (by decide)),
       h c _ (mem_uc main_v0_2 (by decide)),
       h c _ (mem_uc main_v0_3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Value

end
-- ==== Proof.Algebraic.lean ====
/- On extended reals the kernel and the reference end with equal results. -/
module

public import proofs.«01_k».proof.Defs
public import proofs.«01_k».proof.Proof.Entries
public import proofs.«01_k».proof.Proof.RefOut
public import proofs.«01_k».proof.Proof.KRun
public import proofs.«01_k».proof.Proof.Gen.ReferenceIdeal.StepRun

@[expose] public section

noncomputable section

namespace Cert.Splat

open Idealize.ShloMosaic Idealize.ShloMosaic.TcCoe Idealize.SL.Sem
open Cert.KernelIdeal.Gen (W6)
open Cert.KernelIdeal.Value (memScene result0 result1 result2 result3)
open Cert.ReferenceIdeal.Value (holds_all Holds out137 out140 out143 out159 colour)

set_option maxRecDepth 16384
set_option maxHeartbeats 400000

/-- Arrays are equal when their entries are. -/
theorem ext_image (f g : (⟨3, ![256, 256, 3]⟩ : Shape).Idx → EReal) (h : ∀ (y x : Fin 256) (k : Fin 3), f (ix3 y x k) = g (ix3 y x k)) :
    f = g := funext fun i => (congrArg f (eq_ix3 i)).trans ((h (i 0) (i 1) (i 2)).trans (congrArg g (eq_ix3 i).symm))

/-- Maps of one value per pixel are equal when their entries are. -/
theorem ext_map (f g : (⟨3, ![256, 256, 1]⟩ : Shape).Idx → EReal) (h : ∀ (y x : Fin 256), f (ix3 y x 0) = g (ix3 y x 0)) :
    f = g := funext fun i => by
  have h1 : ∀ k : Fin 1, k = 0 := fun k => Subsingleton.elim _ _
  have h2 : i = ix3 (i 0) (i 1) (0 : Fin 1) :=
    (eq_ix3 i).trans (congrArg (fun k : Fin 1 => ix3 (i 0) (i 1) k) (h1 (i 2)))
  exact (congrArg f h2).trans ((h (i 0) (i 1)).trans (congrArg g h2.symm))

/-- Rows of one value per point are equal when their entries are. -/
theorem ext_row (f g : (⟨1, ![4096]⟩ : Shape).Idx → EReal) (h : ∀ j : Fin 4096, f (ix1 j) = g (ix1 j)) :
    f = g := funext fun i => (congrArg f (eq_ix1 i)).trans ((h (i 0)).trans (congrArg g (eq_ix1 i).symm))

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- What the reference's loop leaves, of the kernel's arguments. -/
abbrev Left (s : Cert.ReferenceIdeal.Step.State Ideal) : Prop :=
  Holds (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) 4096 s

variable (s : Cert.ReferenceIdeal.Step.State Ideal) (H : Left m c s) (R : (memScene m c).Below)

include H R

/-- The images are equal. -/
theorem image_eq : Cert.ReferenceIdeal.Step.R_main_v137 s = W6 m ρ c (Proc.devRef .tc Cert.KernelIdeal.main_v0_0) := by
  refine ext_image _ _ fun y x k => ?_
  refine (out137 s y x k).trans (Eq.trans ?_ (result0 m ρ c y x k).symm)
  have hc := colours_eq (memScene m c) R (Cert.KernelIdeal.Value.tileOf y x).val (Cert.KernelIdeal.Value.placeOf y x).val k
  have ho := opacities_eq (memScene m c) R (Cert.KernelIdeal.Value.tileOf y x).val (Cert.KernelIdeal.Value.placeOf y x).val
  have h1 := H.acc (Cert.KernelIdeal.Value.tileOf y x) (Cert.KernelIdeal.Value.placeOf y x)
  have h2 : colour s k (Cert.KernelIdeal.Value.tileOf y x) (Cert.KernelIdeal.Value.placeOf y x)
      = paint (fun n => Cert.ReferenceIdeal.Value.refA (memScene m c) (Cert.KernelIdeal.Value.tileOf y x).val (Cert.KernelIdeal.Value.placeOf y x).val
            (ord (memScene m c) (Cert.KernelIdeal.Value.tileOf y x).val n))
          (fun n => (memScene m c).feat (ord (memScene m c) (Cert.KernelIdeal.Value.tileOf y x).val n) k) 4096 := by
    match k with
    | 0 => exact H.red _ _
    | 1 => exact H.green _ _
    | 2 => exact H.blue _ _
  exact congrArg (min 1) (congrArg (max 0) (congrArg₂ (· + ·) (h2.trans hc.symm) (congrArg (1 - ·) (h1.trans ho.symm))))

/-- The depth maps are equal. -/
theorem depthMap_eq : Cert.ReferenceIdeal.Step.R_main_v140 s = W6 m ρ c (Proc.devRef .tc Cert.KernelIdeal.main_v0_1) := by
  refine ext_map _ _ fun y x => ?_
  exact (out140 s y x).trans ((H.dep (Cert.KernelIdeal.Value.tileOf y x) (Cert.KernelIdeal.Value.placeOf y x)).trans
    ((depths_eq (memScene m c) R _ _).symm.trans (result1 m ρ c y x).symm))

/-- The opacity maps are equal. -/
theorem opacityMap_eq : Cert.ReferenceIdeal.Step.R_main_v143 s = W6 m ρ c (Proc.devRef .tc Cert.KernelIdeal.main_v0_2) := by
  refine ext_map _ _ fun y x => ?_
  exact (out143 s y x).trans ((H.acc (Cert.KernelIdeal.Value.tileOf y x) (Cert.KernelIdeal.Value.placeOf y x)).trans
    ((opacities_eq (memScene m c) R _ _).symm.trans (result2 m ρ c y x).symm))

omit H R in
/-- The radii are equal. -/
theorem radii_eq : Cert.ReferenceIdeal.Step.R_main_v159 s
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
    = W6 m ρ c (Proc.devRef .tc Cert.KernelIdeal.main_v0_3) := by
  refine ext_row _ _ fun j => ?_
  exact (out159 s _ _ _ _ _ _ j).trans (result3 m ρ c j).symm

end Cert.Splat

namespace Cert.Proof

open Idealize.ShloMosaic Idealize.SL.Sem Cert.Splat

set_option maxRecDepth 16384
set_option maxHeartbeats 400000

attribute [local instance] below_infinity_facts

/-- From memories that agree on the arguments, and of which the precondition holds, kernel and reference both run and end
    with equal results and unchanged arguments. -/
theorem algebraic : Cert.algebraic_KernelIdeal_ReferenceIdeal_pre_below_infinity := by
  intro m g m' g' hpre hargs
  have hK := Cert.KernelIdeal.Value.run_results (F := Ideal) m g
  have hR := Cert.ReferenceIdeal.StepRun.run_iter (F := Ideal) m' g'
    (fun c n => Nat.rec (Cert.ReferenceIdeal.StepRun.initState m' c) (fun k s => Cert.ReferenceIdeal.Step.step k s) n)
    (fun _ => rfl) (fun _ _ => rfl)
  refine ⟨fun c => Cert.KernelIdeal.Gen.W6 m g c (Proc.devRef .tc Cert.KernelIdeal.main_v0_0),
    fun c => Cert.KernelIdeal.Gen.W6 m g c (Proc.devRef .tc Cert.KernelIdeal.main_v0_1),
    fun c => Cert.KernelIdeal.Gen.W6 m g c (Proc.devRef .tc Cert.KernelIdeal.main_v0_2),
    fun c => Cert.KernelIdeal.Gen.W6 m g c (Proc.devRef .tc Cert.KernelIdeal.main_v0_3), hK, ?_⟩
  refine (θ_run _ _ _).mono (fun r h c => ?_) hR
  obtain ⟨r0, r1, r2, r3, rest⟩ := h c
  obtain ⟨e0, e1, e2, e3, e4, e5⟩ := hargs c
  have R : (Cert.KernelIdeal.Value.memScene m c).Below := scene_below _ _ _ _ _ _ (hpre c)
  have H : Left m c (Nat.rec (Cert.ReferenceIdeal.StepRun.initState m' c) (fun k s => Cert.ReferenceIdeal.Step.step k s) 4096) := by
    refine Cert.ReferenceIdeal.Value.holds_all _ _ _ _ _ _
      (fun n => Nat.rec (Cert.ReferenceIdeal.StepRun.initState m' c) (fun k s => Cert.ReferenceIdeal.Step.step k s) n)
      ?_ (fun _ => rfl) 4096 le_rfl
    show Cert.ReferenceIdeal.StepRun.initState m' c = _
    unfold Cert.ReferenceIdeal.StepRun.initState
    rw [e0, e1, e2, e3, e4, e5]
  rw [e0, e2, e4] at r3
  exact ⟨r0.trans (image_eq m g c _ H R), r1.trans (depthMap_eq m g c _ H R), r2.trans (opacityMap_eq m g c _ H R),
    r3.trans (radii_eq m g c _), rest⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.StepRun
public import proofs.«01_k».proof.Proof.Algebraic
public import Idealize.ShloMosaic.Adequacy
public import Idealize.ShloMosaic.Init

@[expose] public section

noncomputable section

namespace Cert.Proof

open Idealize.ShloMosaic Idealize.SL.Sem

/-- The reference ends with its arguments unchanged and, having no semaphore, with every counter at zero. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The claims, together. -/
theorem claim : Cert.Claim := ⟨Cert.Kernel.Gen.facts, Cert.KernelIdeal.Gen.facts, Cert.ReferenceIdeal.Gen.facts,
  Cert.Splat.below_infinity_facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  Cert.Proof.algebraic⟩

end Cert.Proof

end
